-- ==== Defs.lean ====
def Pre_Kernel [hPre_plan : Cert.Pre_plan.Facts] (m : (ℓ : Loc Cert.Kernel.nD Cert.Kernel.τ Cert.Kernel.sig) → Buf (Elt Bits) ℓ) : Prop :=
  ∀ c : Dev Cert.Kernel.nD,
    (Cert.Pre_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.1 = (fun _ => 1#1)
    ∧ (Cert.Pre_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.1 = (fun _ => 1#1)
    ∧ (Cert.Pre_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.1 = (fun _ => 1#1)
    ∧ (Cert.Pre_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2 = (fun _ => 1#1)

def Pre_KernelIdeal [hPre_plan : Cert.Pre_plan.Facts] (m : (ℓ : Loc Cert.KernelIdeal.nD Cert.KernelIdeal.τ Cert.KernelIdeal.sig) → Buf (Elt Ideal) ℓ) : Prop :=
  ∀ c : Dev Cert.KernelIdeal.nD,
    (Cert.Pre_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal [hPre_plan : Cert.Pre_plan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def quiescent_Kernel [hKernel : Cert.Kernel.Facts] [hPre_plan : Cert.Pre_plan.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_plan : Cert.Pre_plan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_plan : Cert.Pre_plan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_plan : Cert.Pre_plan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15_0) = v0 c
          ∧ r.2.mem ((c.tc : Thread Cert.ReferenceIdeal.nD Cert.ReferenceIdeal.τ).loc Cert.ReferenceIdeal.main_v15_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_plan : Cert.Pre_plan.Facts),
    quiescent_Kernel (hKernel := hKernel) (hPre_plan := hPre_plan)
    ∧ quiescent_KernelIdeal (hKernelIdeal := hKernelIdeal) (hPre_plan := hPre_plan)
    ∧ quiescent_ReferenceIdeal (hReferenceIdeal := hReferenceIdeal) (hPre_plan := hPre_plan)
    ∧ preserves_Kernel_KernelIdeal
    ∧ algebraic_KernelIdeal_ReferenceIdeal (hKernelIdeal := hKernelIdeal) (hReferenceIdeal := hReferenceIdeal) (hPre_plan := hPre_plan)
-- ==== Pre_plan.lean ====
abbrev S576 : Shape := ⟨1, ![576]⟩
abbrev S9472x2816 : Shape := ⟨2, ![9472, 2816]⟩
abbrev S9472x384 : Shape := ⟨2, ![9472, 384]⟩
abbrev S4x2816x5632 : Shape := ⟨3, ![4, 2816, 5632]⟩
abbrev S4x5632 : Shape := ⟨2, ![4, 5632]⟩
abbrev S1 : Shape := ⟨1, ![1]⟩
abbrev S_ : Shape := ⟨0, ![]⟩
abbrev S37 : Shape := ⟨1, ![37]⟩
abbrev S74 : Shape := ⟨1, ![74]⟩
abbrev S73 : Shape := ⟨1, ![73]⟩
abbrev S74x1 : Shape := ⟨2, ![74, 1]⟩
abbrev S1x74 : Shape := ⟨2, ![1, 74]⟩
abbrev S74x74 : Shape := ⟨2, ![74, 74]⟩
abbrev S1x37 : Shape := ⟨2, ![1, 37]⟩
abbrev S74x37 : Shape := ⟨2, ![74, 37]⟩

class Facts : Prop where
  slices_S576_S1_0 : S576.Slices ![0] S1
  shapeCasts_S1_S_ : S1.ShapeCasts S_
  slices_S576_S37_64 : S576.Slices ![64] S37
  slices_S576_S37_128 : S576.Slices ![128] S37
  slices_S576_S74_192 : S576.Slices ![192] S74
  slices_S576_S74_320 : S576.Slices ![320] S74
  slices_S576_S74_448 : S576.Slices ![448] S74
  bcast_S_S74 : S_.BroadcastsInDim S74 (![] : Fin 0 → Fin S74.rank)
  slices_S74_S73_1 : S74.Slices ![1] S73
  slices_S74_S73_0 : S74.Slices ![0] S73
  bcast_S74_S74x1_0 : S74.BroadcastsInDim S74x1 (![0] : Fin 1 → Fin S74x1.rank)
  bcast_S74_S1x74_1 : S74.BroadcastsInDim S1x74 (![1] : Fin 1 → Fin S1x74.rank)
  bcast_S74x1_S74x74_0_1 : S74x1.BroadcastsInDim S74x74 (![0, 1] : Fin 2 → Fin S74x74.rank)
  bcast_S1x74_S74x74_0_1 : S1x74.BroadcastsInDim S74x74 (![0, 1] : Fin 2 → Fin S74x74.rank)
  bcast_S_S74x1 : S_.BroadcastsInDim S74x1 (![] : Fin 0 → Fin S74x1.rank)
  bcast_S37_S1x37_1 : S37.BroadcastsInDim S1x37 (![1] : Fin 1 → Fin S1x37.rank)
  bcast_S74x1_S74x37_0_1 : S74x1.BroadcastsInDim S74x37 (![0, 1] : Fin 2 → Fin S74x37.rank)
  bcast_S1x37_S74x37_0_1 : S1x37.BroadcastsInDim S74x37 (![0, 1] : Fin 2 → Fin S74x37.rank)

variable [Facts]

def fn_where {F : FTy → Type} [FloatOps F] (arg0 : IVec S74x1 1) (arg1 : IVec S1x37 32) (arg2 : IVec S1x37 32) : IVec S74x37 32 :=
  let v0 : IVec S74x37 1 := broadcastInDim S74x37 ![0, 1] bcast_S74x1_S74x37_0_1 arg0
  let v1 : IVec S74x37 32 := broadcastInDim S74x37 ![0, 1] bcast_S1x37_S74x37_0_1 arg1
  let v2 : IVec S74x37 32 := broadcastInDim S74x37 ![0, 1] bcast_S1x37_S74x37_0_1 arg2
  let v3 : IVec S74x37 32 := select v0 v1 v2
  v3

def fn_part4 {F : FTy → Type} [FloatOps F] (main_v14 : IVec S_ 1) (main_v31 : IVec S74 1) (main_v35 : IVec S74 1) (main_v48 : IVec S73 1) (main_v73 : IVec S74x74 1) (main_v79 : IVec S74x37 32) (main_v84 : IVec S74x37 1) (main_v85 : IVec S74x1 32) : IVec S_ 1 × IVec S74 1 × IVec S74 1 × IVec S73 1 × IVec S74x74 1 × IVec S74x37 1 :=
  let main_v86 : IVec S74x37 32 := broadcastInDim S74x37 ![0, 1] bcast_S74x1_S74x37_0_1 main_v85
  let main_v87 : IVec S74x37 1 := cmpi .eq main_v86 main_v79
  let main_v88 : IVec S74x37 1 := ori main_v84 main_v87
  (main_v14, main_v31, main_v35, main_v48, main_v73, main_v88)

def fn_part3 {F : FTy → Type} [FloatOps F] (main_v2 : IVec S37 32) (main_v3 : IVec S37 32) (main_v4 : IVec S74 32) (main_v5 : IVec S74 32) (main_v6 : IVec S74 32) (main_v8 : IVec S37 32) (main_v14 : IVec S_ 1) (main_v31 : IVec S74 1) (main_v35 : IVec S74 1) (main_v48 : IVec S73 1) (main_v61 : IVec S74x74 1) (main_v62 : IVec S74x1 32) : IVec S_ 1 × IVec S74 1 × IVec S74 1 × IVec S73 1 × IVec S74x74 1 × IVec S74x37 1 :=
  let main_v63 : IVec S1x74 32 := broadcastInDim S1x74 ![1] bcast_S74_S1x74_1 main_v4
  let main_v64 : IVec S74x74 32 := broadcastInDim S74x74 ![0, 1] bcast_S74x1_S74x74_0_1 main_v62
  let main_v65 : IVec S74x74 32 := broadcastInDim S74x74 ![0, 1] bcast_S1x74_S74x74_0_1 main_v63
  let main_v66 : IVec S74x74 1 := cmpi .ne main_v64 main_v65
  let main_v67 : IVec S74x74 1 := ori main_v61 main_v66
  let main_v68 : IVec S74x1 32 := broadcastInDim S74x1 ![0] bcast_S74_S74x1_0 main_v6
  let main_v69 : IVec S1x74 32 := broadcastInDim S1x74 ![1] bcast_S74_S1x74_1 main_v6
  let main_v70 : IVec S74x74 32 := broadcastInDim S74x74 ![0, 1] bcast_S74x1_S74x74_0_1 main_v68
  let main_v71 : IVec S74x74 32 := broadcastInDim S74x74 ![0, 1] bcast_S1x74_S74x74_0_1 main_v69
  let main_v72 : IVec S74x74 1 := cmpi .ne main_v70 main_v71
  let main_v73 : IVec S74x74 1 := ori main_v67 main_v72
  let main_v74 : IVec S74x1 32 := broadcastInDim S74x1 ![0] bcast_S74_S74x1_0 main_v6
  let main_c_8 : IVec S_ 32 := constantI S_ 32 0#32
  let main_v75 : IVec S74x1 32 := broadcastInDim S74x1 ![] bcast_S_S74x1 main_c_8
  let main_v76 : IVec S74x1 1 := cmpi .eq main_v74 main_v75
  let main_v77 : IVec S1x37 32 := broadcastInDim S1x37 ![1] bcast_S37_S1x37_1 main_v2
  let main_v78 : IVec S1x37 32 := broadcastInDim S1x37 ![1] bcast_S37_S1x37_1 main_v3
  let main_v79 : IVec S74x37 32 := fn_where (F := F) main_v76 main_v77 main_v78
  let main_v80 : IVec S74x1 32 := broadcastInDim S74x1 ![0] bcast_S74_S74x1_0 main_v4
  let main_v81 : IVec S1x37 32 := broadcastInDim S1x37 ![1] bcast_S37_S1x37_1 main_v8
  let main_v82 : IVec S74x37 32 := broadcastInDim S74x37 ![0, 1] bcast_S74x1_S74x37_0_1 main_v80
  let main_v83 : IVec S74x37 32 := broadcastInDim S74x37 ![0, 1] bcast_S1x37_S74x37_0_1 main_v81
  let main_v84 : IVec S74x37 1 := cmpi .ne main_v82 main_v83
  let main_v85 : IVec S74x1 32 := broadcastInDim S74x1 ![0] bcast_S74_S74x1_0 main_v5
  fn_part4 (F := F) main_v14 main_v31 main_v35 main_v48 main_v73 main_v79 main_v84 main_v85

def fn_part2 {F : FTy → Type} [FloatOps F] (main_v2 : IVec S37 32) (main_v3 : IVec S37 32) (main_v4 : IVec S74 32) (main_v5 : IVec S74 32) (main_v6 : IVec S74 32) (main_v7 : IVec S74 32) (main_v8 : IVec S37 32) (main_v11 : IVec S74 1) (main_v14 : IVec S_ 1) (main_v31 : IVec S74 1) (main_v35 : IVec S74 1) (main_v36 : IVec S73 1) (main_v37 : IVec S73 32) (main_v38 : IVec S73 32) : IVec S_ 1 × IVec S74 1 × IVec S74 1 × IVec S73 1 × IVec S74x74 1 × IVec S74x37 1 :=
  let main_v39 : IVec S73 1 := cmpi .eq main_v37 main_v38
  let main_v40 : IVec S73 32 := (extractStridedSlice S73 ![1] · slices_S74_S73_1) main_v5
  let main_v41 : IVec S73 32 := (extractStridedSlice S73 ![0] · slices_S74_S73_0) main_v5
  let main_v42 : IVec S73 1 := cmpi .eq main_v40 main_v41
  let main_v43 : IVec S73 1 := andi main_v39 main_v42
  let main_v44 : IVec S73 32 := (extractStridedSlice S73 ![1] · slices_S74_S73_1) main_v6
  let main_v45 : IVec S73 32 := (extractStridedSlice S73 ![0] · slices_S74_S73_0) main_v6
  let main_v46 : IVec S73 1 := cmpi .eq main_v44 main_v45
  let main_v47 : IVec S73 1 := andi main_v43 main_v46
  let main_v48 : IVec S73 1 := ori main_v36 main_v47
  let main_v49 : IVec S74x1 32 := broadcastInDim S74x1 ![0] bcast_S74_S74x1_0 main_v7
  let main_v50 : IVec S1x74 32 := broadcastInDim S1x74 ![1] bcast_S74_S1x74_1 main_v7
  let main_v51 : IVec S74x74 32 := broadcastInDim S74x74 ![0, 1] bcast_S74x1_S74x74_0_1 main_v49
  let main_v52 : IVec S74x74 32 := broadcastInDim S74x74 ![0, 1] bcast_S1x74_S74x74_0_1 main_v50
  let main_v53 : IVec S74x74 1 := cmpi .eq main_v51 main_v52
  let main_v54 : IVec S74x1 1 := broadcastInDim S74x1 ![0] bcast_S74_S74x1_0 main_v11
  let main_v55 : IVec S74x1 1 := noti main_v54
  let main_v56 : IVec S74x74 1 := broadcastInDim S74x74 ![0, 1] bcast_S74x1_S74x74_0_1 main_v55
  let main_v57 : IVec S74x74 1 := ori main_v53 main_v56
  let main_v58 : IVec S1x74 1 := broadcastInDim S1x74 ![1] bcast_S74_S1x74_1 main_v11
  let main_v59 : IVec S1x74 1 := noti main_v58
  let main_v60 : IVec S74x74 1 := broadcastInDim S74x74 ![0, 1] bcast_S1x74_S74x74_0_1 main_v59
  let main_v61 : IVec S74x74 1 := ori main_v57 main_v60
  let main_v62 : IVec S74x1 32 := broadcastInDim S74x1 ![0] bcast_S74_S74x1_0 main_v4
  fn_part3 (F := F) main_v2 main_v3 main_v4 main_v5 main_v6 main_v8 main_v14 main_v31 main_v35 main_v48 main_v61 main_v62

def fn_part1 {F : FTy → Type} [FloatOps F] (main_v1 : IVec S_ 32) (main_v2 : IVec S37 32) (main_v3 : IVec S37 32) (main_v4 : IVec S74 32) (main_v5 : IVec S74 32) (main_v6 : IVec S74 32) (main_v7 : IVec S74 32) (main_v8 : IVec S37 32) (main_v11 : IVec S74 1) (main_v14 : IVec S_ 1) (main_v16 : IVec S74 1) (main_v18 : IVec S74 1) : IVec S_ 1 × IVec S74 1 × IVec S74 1 × IVec S73 1 × IVec S74x74 1 × IVec S74x37 1 :=
  let main_v19 : IVec S74 1 := andi main_v16 main_v18
  let main_c_4 : IVec S_ 32 := constantI S_ 32 0#32
  let main_v20 : IVec S74 32 := broadcastInDim S74 ![] bcast_S_S74 main_c_4
  let main_v21 : IVec S74 1 := cmpi .sge main_v5 main_v20
  let main_v22 : IVec S74 1 := andi main_v19 main_v21
  let main_c_5 : IVec S_ 32 := constantI S_ 32 4#32
  let main_v23 : IVec S74 32 := broadcastInDim S74 ![] bcast_S_S74 main_c_5
  let main_v24 : IVec S74 1 := cmpi .slt main_v5 main_v23
  let main_v25 : IVec S74 1 := andi main_v22 main_v24
  let main_c_6 : IVec S_ 32 := constantI S_ 32 0#32
  let main_v26 : IVec S74 32 := broadcastInDim S74 ![] bcast_S_S74 main_c_6
  let main_v27 : IVec S74 1 := cmpi .sge main_v6 main_v26
  let main_v28 : IVec S74 1 := andi main_v25 main_v27
  let main_c_7 : IVec S_ 32 := constantI S_ 32 2#32
  let main_v29 : IVec S74 32 := broadcastInDim S74 ![] bcast_S_S74 main_c_7
  let main_v30 : IVec S74 1 := cmpi .slt main_v6 main_v29
  let main_v31 : IVec S74 1 := andi main_v28 main_v30
  let main_v32 : IVec S74 1 := noti main_v11
  let main_v33 : IVec S74 32 := broadcastInDim S74 ![] bcast_S_S74 main_v1
  let main_v34 : IVec S74 1 := cmpi .slt main_v4 main_v33
  let main_v35 : IVec S74 1 := ori main_v32 main_v34
  let main_v36 : IVec S73 1 := (extractStridedSlice S73 ![1] · slices_S74_S73_1) main_v11
  let main_v37 : IVec S73 32 := (extractStridedSlice S73 ![1] · slices_S74_S73_1) main_v4
  let main_v38 : IVec S73 32 := (extractStridedSlice S73 ![0] · slices_S74_S73_0) main_v4
  fn_part2 (F := F) main_v2 main_v3 main_v4 main_v5 main_v6 main_v7 main_v8 main_v11 main_v14 main_v31 main_v35 main_v36 main_v37 main_v38

def fn {F : FTy → Type} [FloatOps F] (main_arg0 : IVec S576 32) (main_arg1 : FVec F S9472x2816 .fp8e4m3) (main_arg2 : FVec F S9472x384 .f32) (main_arg3 : FVec F S4x2816x5632 .fp8e4m3) (main_arg4 : FVec F S4x5632 .f32) : IVec S_ 1 × IVec S74 1 × IVec S74 1 × IVec S73 1 × IVec S74x74 1 × IVec S74x37 1 :=
  let main_v0 : IVec S1 32 := (extractStridedSlice S1 ![0] · slices_S576_S1_0) main_arg0
  let main_v1 : IVec S_ 32 := shapeCast S_ main_v0 shapeCasts_S1_S_
  let main_v2 : IVec S37 32 := (extractStridedSlice S37 ![64] · slices_S576_S37_64) main_arg0
  let main_v3 : IVec S37 32 := (extractStridedSlice S37 ![128] · slices_S576_S37_128) main_arg0
  let main_v4 : IVec S74 32 := (extractStridedSlice S74 ![192] · slices_S576_S74_192) main_arg0
  let main_v5 : IVec S74 32 := (extractStridedSlice S74 ![320] · slices_S576_S74_320) main_arg0
  let main_v6 : IVec S74 32 := (extractStridedSlice S74 ![448] · slices_S576_S74_448) main_arg0
  let main_v7 : IVec S74 32 := iotaInDim S74 32 0
  let main_v8 : IVec S37 32 := iotaInDim S37 32 0
  let main_c : IVec S_ 32 := constantI S_ 32 2#32
  let main_v9 : IVec S_ 32 := muli main_c main_v1
  let main_v10 : IVec S74 32 := broadcastInDim S74 ![] bcast_S_S74 main_v9
  let main_v11 : IVec S74 1 := cmpi .slt main_v7 main_v10
  let main_c_0 : IVec S_ 32 := constantI S_ 32 1#32
  let main_v12 : IVec S_ 1 := cmpi .sge main_v1 main_c_0
  let main_c_1 : IVec S_ 32 := constantI S_ 32 37#32
  let main_v13 : IVec S_ 1 := cmpi .sle main_v1 main_c_1
  let main_v14 : IVec S_ 1 := andi main_v12 main_v13
  let main_c_2 : IVec S_ 32 := constantI S_ 32 0#32
  let main_v15 : IVec S74 32 := broadcastInDim S74 ![] bcast_S_S74 main_c_2
  let main_v16 : IVec S74 1 := cmpi .sge main_v4 main_v15
  let main_c_3 : IVec S_ 32 := constantI S_ 32 37#32
  let main_v17 : IVec S74 32 := broadcastInDim S74 ![] bcast_S_S74 main_c_3
  let main_v18 : IVec S74 1 := cmpi .slt main_v4 main_v17
  fn_part1 (F := F) main_v1 main_v2 main_v3 main_v4 main_v5 main_v6 main_v7 main_v8 main_v11 main_v14 main_v16 main_v18
-- ==== Kernel.lean ====
abbrev S576 : Shape := ⟨1, ![576]⟩
abbrev S9472x2816 : Shape := ⟨2, ![9472, 2816]⟩
abbrev S9472x384 : Shape := ⟨2, ![9472, 384]⟩
abbrev S4x2816x5632 : Shape := ⟨3, ![4, 2816, 5632]⟩
abbrev S4x5632 : Shape := ⟨2, ![4, 5632]⟩
abbrev S2x9472x2816 : Shape := ⟨3, ![2, 9472, 2816]⟩
abbrev S1 : Shape := ⟨1, ![1]⟩
abbrev S_ : Shape := ⟨0, ![]⟩
abbrev S2x9472x128 : Shape := ⟨3, ![2, 9472, 128]⟩
abbrev S256x2816 : Shape := ⟨2, ![256, 2816]⟩
abbrev S256x384 : Shape := ⟨2, ![256, 384]⟩
abbrev S1x2816x5632 : Shape := ⟨3, ![1, 2816, 5632]⟩
abbrev S1x256x2816 : Shape := ⟨3, ![1, 256, 2816]⟩
abbrev S1x256x128 : Shape := ⟨3, ![1, 256, 128]⟩
abbrev S256x128 : Shape := ⟨2, ![256, 128]⟩
abbrev S256x256 : Shape := ⟨2, ![256, 256]⟩
abbrev S1x2816x256 : Shape := ⟨3, ![1, 2816, 256]⟩
abbrev S2816x256 : Shape := ⟨2, ![2816, 256]⟩
abbrev S1x256 : Shape := ⟨2, ![1, 256]⟩
abbrev S256 : Shape := ⟨1, ![256]⟩
abbrev S256x1 : Shape := ⟨2, ![256, 1]⟩

abbrev nBuf : Space → Nat
  | .hbm => 27
  | .vmem => 12
  | .smem => 1
  | _ => 0

abbrev bufTy : (tb : Table) → Fin (tcTables nBuf tb) → BufTy
  | .hbm, ⟨0, _⟩ => ⟨S9472x2816, .fp8e4m3⟩
  | .hbm, ⟨1, _⟩ => ⟨S9472x384, .f32⟩
  | .hbm, ⟨2, _⟩ => ⟨S4x2816x5632, .fp8e4m3⟩
  | .hbm, ⟨3, _⟩ => ⟨S4x5632, .f32⟩
  | .hbm, ⟨4, _⟩ => ⟨S2x9472x2816, .i32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S2x9472x2816, .i32⟩
  | .hbm, ⟨10, _⟩ => ⟨S2x9472x2816, .i1⟩
  | .hbm, ⟨11, _⟩ => ⟨S2x9472x128, .i32⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x9472x128, .i32⟩
  | .hbm, ⟨17, _⟩ => ⟨S2x9472x128, .i1⟩
  | .hbm, ⟨18, _⟩ => ⟨S2x9472x2816, .fp8e4m3⟩
  | .hbm, ⟨19, _⟩ => ⟨S2x9472x128, .f32⟩
  | .hbm, ⟨20, _⟩ => ⟨S_, .i8⟩
  | .hbm, ⟨21, _⟩ => ⟨S2x9472x2816, .i8⟩
  | .hbm, ⟨22, _⟩ => ⟨S2x9472x2816, .fp8e4m3⟩
  | .hbm, ⟨23, _⟩ => ⟨S2x9472x2816, .fp8e4m3⟩
  | .hbm, ⟨24, _⟩ => ⟨S_, .f32⟩
  | .hbm, ⟨25, _⟩ => ⟨S2x9472x128, .f32⟩
  | .hbm, ⟨26, _⟩ => ⟨S2x9472x128, .f32⟩
  | .local _ .vmem, ⟨0, _⟩ => ⟨S256x2816, .fp8e4m3⟩
  | .local _ .vmem, ⟨1, _⟩ => ⟨S256x2816, .fp8e4m3⟩
  | .local _ .vmem, ⟨2, _⟩ => ⟨S256x384, .f32⟩
  | .local _ .vmem, ⟨3, _⟩ => ⟨S256x384, .f32⟩
  | .local _ .vmem, ⟨4, _⟩ => ⟨S1x2816x5632, .fp8e4m3⟩
  | .local _ .vmem, ⟨5, _⟩ => ⟨S1x2816x5632, .fp8e4m3⟩
  | .local _ .vmem, ⟨6, _⟩ => ⟨S4x5632, .f32⟩
  | .local _ .vmem, ⟨7, _⟩ => ⟨S1x256x2816, .fp8e4m3⟩
  | .local _ .vmem, ⟨8, _⟩ => ⟨S1x256x2816, .fp8e4m3⟩
  | .local _ .vmem, ⟨9, _⟩ => ⟨S1x256x128, .f32⟩
  | .local _ .vmem, ⟨10, _⟩ => ⟨S1x256x128, .f32⟩
  | .local _ .vmem, ⟨11, _⟩ => ⟨S256x2816, .f32⟩
  | .local _ .smem, ⟨0, _⟩ => ⟨S576, .i32⟩
  | _, _ => ⟨S9472x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![74], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c192_i32 : BitVec 32) : Fin 1 → Nat :=
  let arg0 : BitVec 32 := BitVec.ofNat 32 (i 0).val
  let v0 : BitVec 32 := Scalar.addi c192_i32 arg0
  let v1 : Index := Scalar.indexCast v0
  ![v1.toNat]
def k0_off2 (i : grid0.Coords) : Fin 1 → Nat :=
  let c320_i32 : BitVec 32 := 320#32
  let arg0 : BitVec 32 := BitVec.ofNat 32 (i 0).val
  let v5 : BitVec 32 := Scalar.addi c320_i32 arg0
  let v6 : Index := Scalar.indexCast v5
  ![v6.toNat]
def k0_off3 (v7 : BitVec 32) : Fin 2 → Nat :=
  let v19 : Index := Scalar.indexCast v7
  let c0_11 : Index := 0#32
  ![v19.toNat, 0]
def k0_cond1 (i : grid0.Coords) (v0 : BitVec 32) : BitVec 1 :=
  let arg0 : BitVec 32 := BitVec.ofNat 32 (i 0).val
  let c2_i32 : BitVec 32 := 2#32
  let v1 : BitVec 32 := Scalar.muli c2_i32 v0
  let v2 : BitVec 1 := Scalar.cmpi .slt arg0 v1
  let v3 : BitVec 32 := Scalar.extui v2
  let c0_i32 : BitVec 32 := 0#32
  let v4 : BitVec 1 := Scalar.cmpi .ne v3 c0_i32
  v4

def k0_off4 (v7 : BitVec 32) : Fin 2 → Nat :=
  let v24 : Index := Scalar.indexCast v7
  let c2816_12 : Index := 2816#32
  ![v24.toNat, 2816]
def k0_off5 (v7 : BitVec 32) : Fin 2 → Nat :=
  let v49 : Index := Scalar.indexCast v7
  let c256_24 : Index := 256#32
  ![v49.toNat, 256]
def k0_off6 (v7 : BitVec 32) : Fin 2 → Nat :=
  let v54 : Index := Scalar.indexCast v7
  let c3072_25 : Index := 3072#32
  ![v54.toNat, 3072]
def k0_off7 (v7 : BitVec 32) : Fin 2 → Nat :=
  let v79 : Index := Scalar.indexCast v7
  let c512_37 : Index := 512#32
  ![v79.toNat, 512]
def k0_off8 (v7 : BitVec 32) : Fin 2 → Nat :=
  let v84 : Index := Scalar.indexCast v7
  let c3328_38 : Index := 3328#32
  ![v84.toNat, 3328]
def k0_off9 (v7 : BitVec 32) : Fin 2 → Nat :=
  let v109 : Index := Scalar.indexCast v7
  let c768_50 : Index := 768#32
  ![v109.toNat, 768]
def k0_off10 (v7 : BitVec 32) : Fin 2 → Nat :=
  let v114 : Index := Scalar.indexCast v7
  let c3584_51 : Index := 3584#32
  ![v114.toNat, 3584]
def k0_off11 (v7 : BitVec 32) : Fin 2 → Nat :=
  let v139 : Index := Scalar.indexCast v7
  let c1024_63 : Index := 1024#32
  ![v139.toNat, 1024]
def k0_off12 (v7 : BitVec 32) : Fin 2 → Nat :=
  let v144 : Index := Scalar.indexCast v7
  let c3840_64 : Index := 3840#32
  ![v144.toNat, 3840]
def k0_off13 (v7 : BitVec 32) : Fin 2 → Nat :=
  let v169 : Index := Scalar.indexCast v7
  let c1280_76 : Index := 1280#32
  ![v169.toNat, 1280]
def k0_off14 (v7 : BitVec 32) : Fin 2 → Nat :=
  let v174 : Index := Scalar.indexCast v7
  let c4096_77 : Index := 4096#32
  ![v174.toNat, 4096]
def k0_off15 (v7 : BitVec 32) : Fin 2 → Nat :=
  let v199 : Index := Scalar.indexCast v7
  let c1536_89 : Index := 1536#32
  ![v199.toNat, 1536]
def k0_off16 (v7 : BitVec 32) : Fin 2 → Nat :=
  let v204 : Index := Scalar.indexCast v7
  let c4352_90 : Index := 4352#32
  ![v204.toNat, 4352]
def k0_off17 (v7 : BitVec 32) : Fin 2 → Nat :=
  let v229 : Index := Scalar.indexCast v7
  let c1792_102 : Index := 1792#32
  ![v229.toNat, 1792]
def k0_off18 (v7 : BitVec 32) : Fin 2 → Nat :=
  let v234 : Index := Scalar.indexCast v7
  let c4608_103 : Index := 4608#32
  ![v234.toNat, 4608]
def k0_off19 (v7 : BitVec 32) : Fin 2 → Nat :=
  let v259 : Index := Scalar.indexCast v7
  let c2048_115 : Index := 2048#32
  ![v259.toNat, 2048]
def k0_off20 (v7 : BitVec 32) : Fin 2 → Nat :=
  let v264 : Index := Scalar.indexCast v7
  let c4864_116 : Index := 4864#32
  ![v264.toNat, 4864]
def k0_off21 (v7 : BitVec 32) : Fin 2 → Nat :=
  let v289 : Index := Scalar.indexCast v7
  let c2304_128 : Index := 2304#32
  ![v289.toNat, 2304]
def k0_off22 (v7 : BitVec 32) : Fin 2 → Nat :=
  let v294 : Index := Scalar.indexCast v7
  let c5120_129 : Index := 5120#32
  ![v294.toNat, 5120]
def k0_off23 (v7 : BitVec 32) : Fin 2 → Nat :=
  let v319 : Index := Scalar.indexCast v7
  let c2560_141 : Index := 2560#32
  ![v319.toNat, 2560]
def k0_off24 (v7 : BitVec 32) : Fin 2 → Nat :=
  let v324 : Index := Scalar.indexCast v7
  let c5376_142 : Index := 5376#32
  ![v324.toNat, 5376]

def k0_chk1 (i : grid0.Coords) (v0 : BitVec 32) (v7 : BitVec 32) : Prop :=
  (∀ (k0_h1 : k0_cond1 i v0 = 1#1), ∀ a, (k0_off3 v7) a + S1x256.size a ≤ S4x5632.size a) ∧
  (∀ (k0_h1 : k0_cond1 i v0 = 1#1), ∀ a, (k0_off4 v7) a + S1x256.size a ≤ S4x5632.size a) ∧
  (∀ (k0_h1 : k0_cond1 i v0 = 1#1), ∀ a, (k0_off5 v7) a + S1x256.size a ≤ S4x5632.size a) ∧
  (∀ (k0_h1 : k0_cond1 i v0 = 1#1), ∀ a, (k0_off6 v7) a + S1x256.size a ≤ S4x5632.size a) ∧
  (∀ (k0_h1 : k0_cond1 i v0 = 1#1), ∀ a, (k0_off7 v7) a + S1x256.size a ≤ S4x5632.size a) ∧
  (∀ (k0_h1 : k0_cond1 i v0 = 1#1), ∀ a, (k0_off8 v7) a + S1x256.size a ≤ S4x5632.size a) ∧
  (∀ (k0_h1 : k0_cond1 i v0 = 1#1), ∀ a, (k0_off9 v7) a + S1x256.size a ≤ S4x5632.size a) ∧
  (∀ (k0_h1 : k0_cond1 i v0 = 1#1), ∀ a, (k0_off10 v7) a + S1x256.size a ≤ S4x5632.size a) ∧
  (∀ (k0_h1 : k0_cond1 i v0 = 1#1), ∀ a, (k0_off11 v7) a + S1x256.size a ≤ S4x5632.size a) ∧
  (∀ (k0_h1 : k0_cond1 i v0 = 1#1), ∀ a, (k0_off12 v7) a + S1x256.size a ≤ S4x5632.size a) ∧
  (∀ (k0_h1 : k0_cond1 i v0 = 1#1), ∀ a, (k0_off13 v7) a + S1x256.size a ≤ S4x5632.size a) ∧
  (∀ (k0_h1 : k0_cond1 i v0 = 1#1), ∀ a, (k0_off14 v7) a + S1x256.size a ≤ S4x5632.size a) ∧
  (∀ (k0_h1 : k0_cond1 i v0 = 1#1), ∀ a, (k0_off15 v7) a + S1x256.size a ≤ S4x5632.size a) ∧
  (∀ (k0_h1 : k0_cond1 i v0 = 1#1), ∀ a, (k0_off16 v7) a + S1x256.size a ≤ S4x5632.size a) ∧
  (∀ (k0_h1 : k0_cond1 i v0 = 1#1), ∀ a, (k0_off17 v7) a + S1x256.size a ≤ S4x5632.size a) ∧
  (∀ (k0_h1 : k0_cond1 i v0 = 1#1), ∀ a, (k0_off18 v7) a + S1x256.size a ≤ S4x5632.size a) ∧
  (∀ (k0_h1 : k0_cond1 i v0 = 1#1), ∀ a, (k0_off19 v7) a + S1x256.size a ≤ S4x5632.size a) ∧
  (∀ (k0_h1 : k0_cond1 i v0 = 1#1), ∀ a, (k0_off20 v7) a + S1x256.size a ≤ S4x5632.size a) ∧
  (∀ (k0_h1 : k0_cond1 i v0 = 1#1), ∀ a, (k0_off21 v7) a + S1x256.size a ≤ S4x5632.size a) ∧
  (∀ (k0_h1 : k0_cond1 i v0 = 1#1), ∀ a, (k0_off22 v7) a + S1x256.size a ≤ S4x5632.size a) ∧
  (∀ (k0_h1 : k0_cond1 i v0 = 1#1), ∀ a, (k0_off23 v7) a + S1x256.size a ≤ S4x5632.size a) ∧
  (∀ (k0_h1 : k0_cond1 i v0 = 1#1), ∀ a, (k0_off24 v7) a + S1x256.size a ≤ S4x5632.size a)
theorem k0_off3_inb : ∀ (i : grid0.Coords) (v0 : BitVec 32) (v7 : BitVec 32) (k0_hw1 : k0_chk1 i v0 v7), ∀ (k0_h1 : k0_cond1 i v0 = 1#1), ∀ a, (k0_off3 v7) a + S1x256.size a ≤ S4x5632.size a := fun i v0 v7 k0_hw1 k0_h1 => k0_hw1.1 k0_h1
theorem k0_off4_inb : ∀ (i : grid0.Coords) (v0 : BitVec 32) (v7 : BitVec 32) (k0_hw1 : k0_chk1 i v0 v7), ∀ (k0_h1 : k0_cond1 i v0 = 1#1), ∀ a, (k0_off4 v7) a + S1x256.size a ≤ S4x5632.size a := fun i v0 v7 k0_hw1 k0_h1 => k0_hw1.2.1 k0_h1
theorem k0_off5_inb : ∀ (i : grid0.Coords) (v0 : BitVec 32) (v7 : BitVec 32) (k0_hw1 : k0_chk1 i v0 v7), ∀ (k0_h1 : k0_cond1 i v0 = 1#1), ∀ a, (k0_off5 v7) a + S1x256.size a ≤ S4x5632.size a := fun i v0 v7 k0_hw1 k0_h1 => k0_hw1.2.2.1 k0_h1
theorem k0_off6_inb : ∀ (i : grid0.Coords) (v0 : BitVec 32) (v7 : BitVec 32) (k0_hw1 : k0_chk1 i v0 v7), ∀ (k0_h1 : k0_cond1 i v0 = 1#1), ∀ a, (k0_off6 v7) a + S1x256.size a ≤ S4x5632.size a := fun i v0 v7 k0_hw1 k0_h1 => k0_hw1.2.2.2.1 k0_h1
theorem k0_off7_inb : ∀ (i : grid0.Coords) (v0 : BitVec 32) (v7 : BitVec 32) (k0_hw1 : k0_chk1 i v0 v7), ∀ (k0_h1 : k0_cond1 i v0 = 1#1), ∀ a, (k0_off7 v7) a + S1x256.size a ≤ S4x5632.size a := fun i v0 v7 k0_hw1 k0_h1 => k0_hw1.2.2.2.2.1 k0_h1
theorem k0_off8_inb : ∀ (i : grid0.Coords) (v0 : BitVec 32) (v7 : BitVec 32) (k0_hw1 : k0_chk1 i v0 v7), ∀ (k0_h1 : k0_cond1 i v0 = 1#1), ∀ a, (k0_off8 v7) a + S1x256.size a ≤ S4x5632.size a := fun i v0 v7 k0_hw1 k0_h1 => k0_hw1.2.2.2.2.2.1 k0_h1
theorem k0_off9_inb : ∀ (i : grid0.Coords) (v0 : BitVec 32) (v7 : BitVec 32) (k0_hw1 : k0_chk1 i v0 v7), ∀ (k0_h1 : k0_cond1 i v0 = 1#1), ∀ a, (k0_off9 v7) a + S1x256.size a ≤ S4x5632.size a := fun i v0 v7 k0_hw1 k0_h1 => k0_hw1.2.2.2.2.2.2.1 k0_h1
theorem k0_off10_inb : ∀ (i : grid0.Coords) (v0 : BitVec 32) (v7 : BitVec 32) (k0_hw1 : k0_chk1 i v0 v7), ∀ (k0_h1 : k0_cond1 i v0 = 1#1), ∀ a, (k0_off10 v7) a + S1x256.size a ≤ S4x5632.size a := fun i v0 v7 k0_hw1 k0_h1 => k0_hw1.2.2.2.2.2.2.2.1 k0_h1
theorem k0_off11_inb : ∀ (i : grid0.Coords) (v0 : BitVec 32) (v7 : BitVec 32) (k0_hw1 : k0_chk1 i v0 v7), ∀ (k0_h1 : k0_cond1 i v0 = 1#1), ∀ a, (k0_off11 v7) a + S1x256.size a ≤ S4x5632.size a := fun i v0 v7 k0_hw1 k0_h1 => k0_hw1.2.2.2.2.2.2.2.2.1 k0_h1
theorem k0_off12_inb : ∀ (i : grid0.Coords) (v0 : BitVec 32) (v7 : BitVec 32) (k0_hw1 : k0_chk1 i v0 v7), ∀ (k0_h1 : k0_cond1 i v0 = 1#1), ∀ a, (k0_off12 v7) a + S1x256.size a ≤ S4x5632.size a := fun i v0 v7 k0_hw1 k0_h1 => k0_hw1.2.2.2.2.2.2.2.2.2.1 k0_h1
theorem k0_off13_inb : ∀ (i : grid0.Coords) (v0 : BitVec 32) (v7 : BitVec 32) (k0_hw1 : k0_chk1 i v0 v7), ∀ (k0_h1 : k0_cond1 i v0 = 1#1), ∀ a, (k0_off13 v7) a + S1x256.size a ≤ S4x5632.size a := fun i v0 v7 k0_hw1 k0_h1 => k0_hw1.2.2.2.2.2.2.2.2.2.2.1 k0_h1
theorem k0_off14_inb : ∀ (i : grid0.Coords) (v0 : BitVec 32) (v7 : BitVec 32) (k0_hw1 : k0_chk1 i v0 v7), ∀ (k0_h1 : k0_cond1 i v0 = 1#1), ∀ a, (k0_off14 v7) a + S1x256.size a ≤ S4x5632.size a := fun i v0 v7 k0_hw1 k0_h1 => k0_hw1.2.2.2.2.2.2.2.2.2.2.2.1 k0_h1
theorem k0_off15_inb : ∀ (i : grid0.Coords) (v0 : BitVec 32) (v7 : BitVec 32) (k0_hw1 : k0_chk1 i v0 v7), ∀ (k0_h1 : k0_cond1 i v0 = 1#1), ∀ a, (k0_off15 v7) a + S1x256.size a ≤ S4x5632.size a := fun i v0 v7 k0_hw1 k0_h1 => k0_hw1.2.2.2.2.2.2.2.2.2.2.2.2.1 k0_h1
theorem k0_off16_inb : ∀ (i : grid0.Coords) (v0 : BitVec 32) (v7 : BitVec 32) (k0_hw1 : k0_chk1 i v0 v7), ∀ (k0_h1 : k0_cond1 i v0 = 1#1), ∀ a, (k0_off16 v7) a + S1x256.size a ≤ S4x5632.size a := fun i v0 v7 k0_hw1 k0_h1 => k0_hw1.2.2.2.2.2.2.2.2.2.2.2.2.2.1 k0_h1
theorem k0_off17_inb : ∀ (i : grid0.Coords) (v0 : BitVec 32) (v7 : BitVec 32) (k0_hw1 : k0_chk1 i v0 v7), ∀ (k0_h1 : k0_cond1 i v0 = 1#1), ∀ a, (k0_off17 v7) a + S1x256.size a ≤ S4x5632.size a := fun i v0 v7 k0_hw1 k0_h1 => k0_hw1.2.2.2.2.2.2.2.2.2.2.2.2.2.2.1 k0_h1
theorem k0_off18_inb : ∀ (i : grid0.Coords) (v0 : BitVec 32) (v7 : BitVec 32) (k0_hw1 : k0_chk1 i v0 v7), ∀ (k0_h1 : k0_cond1 i v0 = 1#1), ∀ a, (k0_off18 v7) a + S1x256.size a ≤ S4x5632.size a := fun i v0 v7 k0_hw1 k0_h1 => k0_hw1.2.2.2.2.2.2.2.2.2.2.2.2.2.2.2.1 k0_h1
theorem k0_off19_inb : ∀ (i : grid0.Coords) (v0 : BitVec 32) (v7 : BitVec 32) (k0_hw1 : k0_chk1 i v0 v7), ∀ (k0_h1 : k0_cond1 i v0 = 1#1), ∀ a, (k0_off19 v7) a + S1x256.size a ≤ S4x5632.size a := fun i v0 v7 k0_hw1 k0_h1 => k0_hw1.2.2.2.2.2.2.2.2.2.2.2.2.2.2.2.2.1 k0_h1
theorem k0_off20_inb : ∀ (i : grid0.Coords) (v0 : BitVec 32) (v7 : BitVec 32) (k0_hw1 : k0_chk1 i v0 v7), ∀ (k0_h1 : k0_cond1 i v0 = 1#1), ∀ a, (k0_off20 v7) a + S1x256.size a ≤ S4x5632.size a := fun i v0 v7 k0_hw1 k0_h1 => k0_hw1.2.2.2.2.2.2.2.2.2.2.2.2.2.2.2.2.2.1 k0_h1
theorem k0_off21_inb : ∀ (i : grid0.Coords) (v0 : BitVec 32) (v7 : BitVec 32) (k0_hw1 : k0_chk1 i v0 v7), ∀ (k0_h1 : k0_cond1 i v0 = 1#1), ∀ a, (k0_off21 v7) a + S1x256.size a ≤ S4x5632.size a := fun i v0 v7 k0_hw1 k0_h1 => k0_hw1.2.2.2.2.2.2.2.2.2.2.2.2.2.2.2.2.2.2.1 k0_h1
theorem k0_off22_inb : ∀ (i : grid0.Coords) (v0 : BitVec 32) (v7 : BitVec 32) (k0_hw1 : k0_chk1 i v0 v7), ∀ (k0_h1 : k0_cond1 i v0 = 1#1), ∀ a, (k0_off22 v7) a + S1x256.size a ≤ S4x5632.size a := fun i v0 v7 k0_hw1 k0_h1 => k0_hw1.2.2.2.2.2.2.2.2.2.2.2.2.2.2.2.2.2.2.2.1 k0_h1
theorem k0_off23_inb : ∀ (i : grid0.Coords) (v0 : BitVec 32) (v7 : BitVec 32) (k0_hw1 : k0_chk1 i v0 v7), ∀ (k0_h1 : k0_cond1 i v0 = 1#1), ∀ a, (k0_off23 v7) a + S1x256.size a ≤ S4x5632.size a := fun i v0 v7 k0_hw1 k0_h1 => k0_hw1.2.2.2.2.2.2.2.2.2.2.2.2.2.2.2.2.2.2.2.2.1 k0_h1
theorem k0_off24_inb : ∀ (i : grid0.Coords) (v0 : BitVec 32) (v7 : BitVec 32) (k0_hw1 : k0_chk1 i v0 v7), ∀ (k0_h1 : k0_cond1 i v0 = 1#1), ∀ a, (k0_off24 v7) a + S1x256.size a ≤ S4x5632.size a := fun i v0 v7 k0_hw1 k0_h1 => k0_hw1.2.2.2.2.2.2.2.2.2.2.2.2.2.2.2.2.2.2.2.2.2 k0_h1

def k0_off25 (i : grid0.Coords) : Fin 1 → Nat :=
  let c448_i32 : BitVec 32 := 448#32
  let arg0 : BitVec 32 := BitVec.ofNat 32 (i 0).val
  let v462 : BitVec 32 := Scalar.addi c448_i32 arg0
  let v463 : Index := Scalar.indexCast v462
  ![v463.toNat]
def cc0_transform_0 (k0_off1_inb : ∀ i : grid0.Coords, ∀ (r : Fin 3), ∀ a, (k0_off1 i (BitVec.ofNat 32 (192 + 128 * r.val))) a + S1.size a ≤ S576.size a) (numel1_S1 : S1.numel = 1) (pf : pre0.Contents (Elt F)) (i : grid0.Coords) : Fin 2 → Nat :=
  let arg0 : BitVec 32 := BitVec.ofNat 32 (i 0).val
  let c192_i32 : BitVec 32 := 192#32
  let v0 : BitVec 32 := Scalar.addi c192_i32 arg0
  let v1 : Index := Scalar.indexCast v0
  let v2 : BitVec 32 := pf.at 0 (Rect.unit (s := S576) ![v1.toNat] S1.size (k0_off1_inb i 0)) numel1_S1
  let c0_i32 : BitVec 32 := 0#32
  let c0_i32_0 : BitVec 32 := 0#32
  ![v2.toNat, c0_i32.toNat]

def cc0_transform_1 (k0_off1_inb : ∀ i : grid0.Coords, ∀ (r : Fin 3), ∀ a, (k0_off1 i (BitVec.ofNat 32 (192 + 128 * r.val))) a + S1.size a ≤ S576.size a) (numel1_S1 : S1.numel = 1) (pf : pre0.Contents (Elt F)) (i : grid0.Coords) : Fin 2 → Nat :=
  let arg0 : BitVec 32 := BitVec.ofNat 32 (i 0).val
  let c192_i32 : BitVec 32 := 192#32
  let v0 : BitVec 32 := Scalar.addi c192_i32 arg0
  let v1 : Index := Scalar.indexCast v0
  let v2 : BitVec 32 := pf.at 0 (Rect.unit (s := S576) ![v1.toNat] S1.size (k0_off1_inb i 0)) numel1_S1
  let c0_i32 : BitVec 32 := 0#32
  let c0_i32_0 : BitVec 32 := 0#32
  ![v2.toNat, c0_i32.toNat]

def cc0_transform_2 (k0_off1_inb : ∀ i : grid0.Coords, ∀ (r : Fin 3), ∀ a, (k0_off1 i (BitVec.ofNat 32 (192 + 128 * r.val))) a + S1.size a ≤ S576.size a) (numel1_S1 : S1.numel = 1) (pf : pre0.Contents (Elt F)) (i : grid0.Coords) : Fin 3 → Nat :=
  let arg0 : BitVec 32 := BitVec.ofNat 32 (i 0).val
  let c320_i32 : BitVec 32 := 320#32
  let v0 : BitVec 32 := Scalar.addi c320_i32 arg0
  let v1 : Index := Scalar.indexCast v0
  let v2 : BitVec 32 := pf.at 0 (Rect.unit (s := S576) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ (r : Fin 3), ∀ a, (k0_off1 i (BitVec.ofNat 32 (192 + 128 * r.val))) a + S1.size a ≤ S576.size a) (numel1_S1 : S1.numel = 1) (pf : pre0.Contents (Elt F)) (i : grid0.Coords) : Fin 3 → Nat :=
  let arg0 : BitVec 32 := BitVec.ofNat 32 (i 0).val
  let c448_i32 : BitVec 32 := 448#32
  let v0 : BitVec 32 := Scalar.addi c448_i32 arg0
  let v1 : Index := Scalar.indexCast v0
  let v2 : BitVec 32 := pf.at 0 (Rect.unit (s := S576) ![v1.toNat] S1.size (k0_off1_inb i 2)) numel1_S1
  let c192_i32 : BitVec 32 := 192#32
  let v3 : BitVec 32 := Scalar.addi c192_i32 arg0
  let v4 : Index := Scalar.indexCast v3
  let v5 : BitVec 32 := pf.at 0 (Rect.unit (s := S576) ![v4.toNat] S1.size (k0_off1_inb i 0)) numel1_S1
  let c0_i32 : BitVec 32 := 0#32
  let c0_i32_0 : BitVec 32 := 0#32
  ![v2.toNat, v5.toNat, c0_i32.toNat]

def cc0_transform_5 (k0_off1_inb : ∀ i : grid0.Coords, ∀ (r : Fin 3), ∀ a, (k0_off1 i (BitVec.ofNat 32 (192 + 128 * r.val))) a + S1.size a ≤ S576.size a) (numel1_S1 : S1.numel = 1) (pf : pre0.Contents (Elt F)) (i : grid0.Coords) : Fin 3 → Nat :=
  let arg0 : BitVec 32 := BitVec.ofNat 32 (i 0).val
  let c448_i32 : BitVec 32 := 448#32
  let v0 : BitVec 32 := Scalar.addi c448_i32 arg0
  let v1 : Index := Scalar.indexCast v0
  let v2 : BitVec 32 := pf.at 0 (Rect.unit (s := S576) ![v1.toNat] S1.size (k0_off1_inb i 2)) numel1_S1
  let c192_i32 : BitVec 32 := 192#32
  let v3 : BitVec 32 := Scalar.addi c192_i32 arg0
  let v4 : Index := Scalar.indexCast v3
  let v5 : BitVec 32 := pf.at 0 (Rect.unit (s := S576) ![v4.toNat] S1.size (k0_off1_inb i 0)) numel1_S1
  let c0_i32 : BitVec 32 := 0#32
  let c0_i32_0 : BitVec 32 := 0#32
  ![v2.toNat, v5.toNat, c0_i32.toNat]

abbrev stage0_0 : Fin 2 → Memref sig .tc .vmem S256x2816 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x5632 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x2816 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S576 : Shape := ⟨1, ![576]⟩
abbrev S9472x2816 : Shape := ⟨2, ![9472, 2816]⟩
abbrev S9472x384 : Shape := ⟨2, ![9472, 384]⟩
abbrev S4x2816x5632 : Shape := ⟨3, ![4, 2816, 5632]⟩
abbrev S4x5632 : Shape := ⟨2, ![4, 5632]⟩
abbrev S37 : Shape := ⟨1, ![37]⟩
abbrev S1x37 : Shape := ⟨2, ![1, 37]⟩
abbrev S2x37 : Shape := ⟨2, ![2, 37]⟩
abbrev S2x37x1 : Shape := ⟨3, ![2, 37, 1]⟩
abbrev S2x37x256 : Shape := ⟨3, ![2, 37, 256]⟩
abbrev S2x9472x1 : Shape := ⟨3, ![2, 9472, 1]⟩
abbrev S9472x1 : Shape := ⟨2, ![9472, 1]⟩
abbrev S1 : Shape := ⟨1, ![1]⟩
abbrev S_ : Shape := ⟨0, ![]⟩
abbrev S2x9472x2816 : Shape := ⟨3, ![2, 9472, 2816]⟩
abbrev S2x9472x128 : Shape := ⟨3, ![2, 9472, 128]⟩
abbrev S9472x128 : Shape := ⟨2, ![9472, 128]⟩
abbrev S9472x5632 : Shape := ⟨2, ![9472, 5632]⟩
abbrev S1x2816x5632 : Shape := ⟨3, ![1, 2816, 5632]⟩
abbrev S2816x5632 : Shape := ⟨2, ![2816, 5632]⟩
abbrev S1x5632 : Shape := ⟨2, ![1, 5632]⟩
abbrev S1x9472x1 : Shape := ⟨3, ![1, 9472, 1]⟩
abbrev S9472 : Shape := ⟨1, ![9472]⟩
abbrev S1x252 : Shape := ⟨2, ![1, 252]⟩
abbrev S9472x252 : Shape := ⟨2, ![9472, 252]⟩
abbrev S1x9472x2816 : Shape := ⟨3, ![1, 9472, 2816]⟩
abbrev S1x9472x128 : Shape := ⟨3, ![1, 9472, 128]⟩

abbrev nBuf : Space → Nat
  | .hbm => 23
  | .vmem => 8
  | .smem => 0
  | _ => 0

abbrev bufTy : (tb : Table) → Fin (tcTables nBuf tb) → BufTy
  | .hbm, ⟨0, _⟩ => ⟨S576, .i32⟩
  | .hbm, ⟨1, _⟩ => ⟨S9472x2816, .fp8e4m3⟩
  | .hbm, ⟨2, _⟩ => ⟨S9472x384, .f32⟩
  | .hbm, ⟨3, _⟩ => ⟨S4x2816x5632, .fp8e4m3⟩
  | .hbm, ⟨4, _⟩ => ⟨S4x5632, .f32⟩
  | .hbm, ⟨5, _⟩ => ⟨S37, .i32⟩
  | .hbm, ⟨6, _⟩ => ⟨S37, .i32⟩
  | .hbm, ⟨7, _⟩ => ⟨S1x37, .i32⟩
  | .hbm, ⟨8, _⟩ => ⟨S1x37, .i32⟩
  | .hbm, ⟨9, _⟩ => ⟨S2x37, .i32⟩
  | .hbm, ⟨10, _⟩ => ⟨S2x37x1, .i32⟩
  | .hbm, ⟨11, _⟩ => ⟨S2x37x256, .i32⟩
  | .hbm, ⟨12, _⟩ => ⟨S2x9472x1, .i32⟩
  | .hbm, ⟨13, _⟩ => ⟨S9472x1, .i32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S9472x1, .i32⟩
  | .hbm, ⟨19, _⟩ => ⟨S9472x1, .i1⟩
  | .hbm, ⟨20, _⟩ => ⟨S9472x1, .i32⟩
  | .hbm, ⟨21, _⟩ => ⟨S2x9472x2816, .fp8e4m3⟩
  | .hbm, ⟨22, _⟩ => ⟨S2x9472x128, .f32⟩
  | .local _ .vmem, ⟨0, _⟩ => ⟨S2x9472x1, .i32⟩
  | .local _ .vmem, ⟨1, _⟩ => ⟨S9472x1, .i32⟩
  | .local _ .vmem, ⟨2, _⟩ => ⟨S9472x2816, .fp8e4m3⟩
  | .local _ .vmem, ⟨3, _⟩ => ⟨S9472x384, .f32⟩
  | .local _ .vmem, ⟨4, _⟩ => ⟨S4x2816x5632, .fp8e4m3⟩
  | .local _ .vmem, ⟨5, _⟩ => ⟨S4x5632, .f32⟩
  | .local _ .vmem, ⟨6, _⟩ => ⟨S2x9472x2816, .fp8e4m3⟩
  | .local _ .vmem, ⟨7, _⟩ => ⟨S2x9472x128, .f32⟩
  | _, _ => ⟨S576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x9472x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9472x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9472x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9472x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2816x5632 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x9472x2816 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x9472x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Plan.lean ====
/- The plan table, read by positions: what the precondition says of it, as plain facts about numbers. -/
module

public import proofs.«01_k».proof.Defs
public import proofs.«01_k».proof.Proof.Gen.Pre_plan

@[expose] public section

namespace Cert.Up

open Idealize.ShloMosaic

/-- The shape of the plan table. -/
abbrev STab : Shape := ⟨1, ![576]⟩

/-- The position `k` of the table (taken modulo the table's length, so that it is total). -/
def tix (k : ℕ) : STab.Idx := fun a => ⟨k % 576, by
  have h : a = 0 := Subsingleton.elim _ _
  subst h; exact Nat.mod_lt _ (by decide)⟩

/-- The table's word at position `k`. -/
def word (T : STab.Idx → BitVec 32) (k : ℕ) : BitVec 32 := T (tix k)

/-- Any entry of the table is the word at its position. -/
theorem word_val (T : STab.Idx → BitVec 32) (y : STab.Idx) : T y = word T (y 0).val := by
  unfold word
  congr 1
  funext a
  have h : a = 0 := Subsingleton.elim _ _
  subst h
  exact Fin.ext (Nat.mod_eq_of_lt (y 0).isLt).symm

/-- What the precondition says of the table's words `w`: `n = w 0` tiles are in use; visit `v` works on tile
    `w (192 + v)` with expert `w (320 + v)` in slot `w (448 + v)`; the first `2 n` visits are in use, each (tile, slot)
    once; the visits after them repeat the last; the expert is the one the tile has in that slot (`w (64 + i)` or
    `w (128 + i)`). -/
structure Plan (w : ℕ → BitVec 32) : Prop where
  count : 1 ≤ (w 0).toNat ∧ (w 0).toNat ≤ 37
  tile_lt : ∀ v, v < 74 → (w (192 + v)).toNat < 37
  expert_lt : ∀ v, v < 74 → (w (320 + v)).toNat < 4
  slot_lt : ∀ v, v < 74 → (w (448 + v)).toNat < 2
  used : ∀ v, v < 2 * (w 0).toNat → (w (192 + v)).toNat < (w 0).toNat
  tail : ∀ v, v + 1 < 74 → 2 * (w 0).toNat ≤ v + 1 →
    w (192 + (v + 1)) = w (192 + v) ∧ w (320 + (v + 1)) = w (320 + v) ∧ w (448 + (v + 1)) = w (448 + v)
  once : ∀ v v', v < 2 * (w 0).toNat → v' < 2 * (w 0).toNat → w (192 + v) = w (192 + v') → w (448 + v) = w (448 + v') → v = v'
  right : ∀ v i, v < 74 → i < 37 → (w (192 + v)).toNat = i →
    w (320 + v) = if (w (448 + v)).toNat = 0 then w (64 + i) else w (128 + i)

theorem andi_ofBool (p q : Bool) : IntOp.andi (BitVec.ofBool p) (BitVec.ofBool q) = BitVec.ofBool (p && q) := by
  cases p <;> cases q <;> decide
theorem ori_ofBool (p q : Bool) : IntOp.ori (BitVec.ofBool p) (BitVec.ofBool q) = BitVec.ofBool (p || q) := by
  cases p <;> cases q <;> decide
theorem not_ofBool (p : Bool) : ~~~(BitVec.ofBool p) = BitVec.ofBool (!p) := by
  cases p <;> decide
theorem ofBool_eq_one (p : Bool) : (BitVec.ofBool p = 1#1) ↔ p = true := by cases p <;> decide

variable {F : FTy → Type} [FloatOps F]

section Decode

theorem S1_val (y : Cert.Pre_plan.S1.Idx) (a) : (y a).val = 0 := by
  have h : a = 0 := Subsingleton.elim _ _
  subst h
  have h : (y 0).val < 1 := (y 0).isLt
  omega

variable (T : Cert.Pre_plan.S576.Idx → BitVec 32) (a1 : FVec F Cert.Pre_plan.S9472x2816 .fp8e4m3) (a2 : FVec F Cert.Pre_plan.S9472x384 .f32)
  (a3 : FVec F Cert.Pre_plan.S4x2816x5632 .fp8e4m3) (a4 : FVec F Cert.Pre_plan.S4x5632 .f32)

/-- The precondition's six results all true. -/
def Holds : Prop :=
  (Cert.Pre_plan.fn T a1 a2 a3 a4).1 = (fun _ => 1#1)
  ∧ (Cert.Pre_plan.fn T a1 a2 a3 a4).2.1 = (fun _ => 1#1)
  ∧ (Cert.Pre_plan.fn T a1 a2 a3 a4).2.2.1 = (fun _ => 1#1)
  ∧ (Cert.Pre_plan.fn T a1 a2 a3 a4).2.2.2.1 = (fun _ => 1#1)
  ∧ (Cert.Pre_plan.fn T a1 a2 a3 a4).2.2.2.2.1 = (fun _ => 1#1)
  ∧ (Cert.Pre_plan.fn T a1 a2 a3 a4).2.2.2.2.2 = (fun _ => 1#1)

variable {T a1 a2 a3 a4}

theorem count_of (h : Holds T a1 a2 a3 a4) : (1#32).sle (word T 0) = true ∧ (word T 0).sle 37#32 = true := by
  have e := congrFun h.1 (fun a => a.elim0)
  have e' : IntOp.andi (IntOp.cmpi .sge (word T 0) 1#32) (IntOp.cmpi .sle (word T 0) 37#32) = 1#1 := by
    rw [← e]
    simp only [Cert.Pre_plan.fn, Cert.Pre_plan.fn_part1, Cert.Pre_plan.fn_part2, Cert.Pre_plan.fn_part3, Cert.Pre_plan.fn_part4,
      andi, cmpi, extractStridedSlice, shapeCast, constantI, word_val T]
    rfl
  simpa only [IntOp.cmpi, andi_ofBool, ofBool_eq_one, Bool.and_eq_true] using e'

/-- The index `v` of a vector, and the index `(v, u)` of a matrix. -/
def i74 (v : ℕ) (h : v < 74) : Cert.Pre_plan.S74.Idx := fun a => ⟨v, by have e : a = 0 := Subsingleton.elim _ _; subst e; exact h⟩
def i73 (v : ℕ) (h : v < 73) : Cert.Pre_plan.S73.Idx := fun a => ⟨v, by have e : a = 0 := Subsingleton.elim _ _; subst e; exact h⟩
def i7474 (v u : ℕ) (h : v < 74) (h' : u < 74) : Cert.Pre_plan.S74x74.Idx := fun | ⟨0, _⟩ => ⟨v, h⟩ | ⟨1, _⟩ => ⟨u, h'⟩
def i7437 (v u : ℕ) (h : v < 74) (h' : u < 37) : Cert.Pre_plan.S74x37.Idx := fun | ⟨0, _⟩ => ⟨v, h⟩ | ⟨1, _⟩ => ⟨u, h'⟩

theorem ranges_of (h : Holds T a1 a2 a3 a4) (v : ℕ) (hv : v < 74) :
    (((((0#32).sle (word T (192 + v)) = true ∧ (word T (192 + v)).slt 37#32 = true) ∧ (0#32).sle (word T (320 + v)) = true)
      ∧ (word T (320 + v)).slt 4#32 = true) ∧ (0#32).sle (word T (448 + v)) = true) ∧ (word T (448 + v)).slt 2#32 = true := by
  have e := congrFun h.2.1 (i74 v hv)
  have e' : IntOp.andi (IntOp.andi (IntOp.andi (IntOp.andi (IntOp.andi (IntOp.cmpi .sge (word T (192 + v)) 0#32) (IntOp.cmpi .slt (word T (192 + v)) 37#32))
      (IntOp.cmpi .sge (word T (320 + v)) 0#32)) (IntOp.cmpi .slt (word T (320 + v)) 4#32))
      (IntOp.cmpi .sge (word T (448 + v)) 0#32)) (IntOp.cmpi .slt (word T (448 + v)) 2#32) = 1#1 := by
    rw [← e]
    simp only [Cert.Pre_plan.fn, Cert.Pre_plan.fn_part1, Cert.Pre_plan.fn_part2, Cert.Pre_plan.fn_part3, Cert.Pre_plan.fn_part4, Cert.Pre_plan.fn_where,
      andi, ori, noti, muli, cmpi, select, extractStridedSlice, shapeCast, constantI, iotaInDim, broadcastInDim, word_val T, S1_val]
    rfl
  simpa only [IntOp.cmpi, andi_ofBool, ofBool_eq_one, Bool.and_eq_true] using e'

theorem used_of (h : Holds T a1 a2 a3 a4) (v : ℕ) (hv : v < 74) :
    (BitVec.ofNat 32 v).slt (2#32 * word T 0) = false ∨ (word T (192 + v)).slt (word T 0) = true := by
  have e := congrFun h.2.2.1 (i74 v hv)
  have e' : IntOp.ori (~~~ (IntOp.cmpi .slt (BitVec.ofNat 32 v) (IntOp.muli 2#32 (word T 0)))) (IntOp.cmpi .slt (word T (192 + v)) (word T 0)) = 1#1 := by
    rw [← e]
    simp only [Cert.Pre_plan.fn, Cert.Pre_plan.fn_part1, Cert.Pre_plan.fn_part2, Cert.Pre_plan.fn_part3, Cert.Pre_plan.fn_part4, Cert.Pre_plan.fn_where,
      andi, ori, noti, muli, cmpi, select, extractStridedSlice, shapeCast, constantI, iotaInDim, broadcastInDim, word_val T, S1_val]
    rfl
  simpa only [IntOp.cmpi, IntOp.muli, ori_ofBool, not_ofBool, ofBool_eq_one, Bool.or_eq_true, Bool.not_eq_true'] using e'

theorem tail_of (h : Holds T a1 a2 a3 a4) (v : ℕ) (hv : v < 73) :
    (BitVec.ofNat 32 (1 + v)).slt (2#32 * word T 0) = true
      ∨ (word T (192 + (1 + v)) = word T (192 + (0 + v)) ∧ word T (320 + (1 + v)) = word T (320 + (0 + v))) ∧ word T (448 + (1 + v)) = word T (448 + (0 + v)) := by
  have e := congrFun h.2.2.2.1 (i73 v hv)
  have e' : IntOp.ori (IntOp.cmpi .slt (BitVec.ofNat 32 (1 + v)) (IntOp.muli 2#32 (word T 0)))
      (IntOp.andi (IntOp.andi (IntOp.cmpi .eq (word T (192 + (1 + v))) (word T (192 + (0 + v)))) (IntOp.cmpi .eq (word T (320 + (1 + v))) (word T (320 + (0 + v)))))
        (IntOp.cmpi .eq (word T (448 + (1 + v))) (word T (448 + (0 + v))))) = 1#1 := by
    rw [← e]
    simp only [Cert.Pre_plan.fn, Cert.Pre_plan.fn_part1, Cert.Pre_plan.fn_part2, Cert.Pre_plan.fn_part3, Cert.Pre_plan.fn_part4, Cert.Pre_plan.fn_where,
      andi, ori, noti, muli, cmpi, select, extractStridedSlice, shapeCast, constantI, iotaInDim, broadcastInDim, word_val T, S1_val]
    rfl
  simpa only [IntOp.cmpi, IntOp.muli, ori_ofBool, andi_ofBool, ofBool_eq_one, Bool.or_eq_true, Bool.and_eq_true, beq_iff_eq] using e'

theorem once_of (h : Holds T a1 a2 a3 a4) (v u : ℕ) (hv : v < 74) (hu : u < 74) :
    (((BitVec.ofNat 32 v = BitVec.ofNat 32 u ∨ (BitVec.ofNat 32 v).slt (2#32 * word T 0) = false) ∨ (BitVec.ofNat 32 u).slt (2#32 * word T 0) = false)
      ∨ word T (192 + v) ≠ word T (192 + u)) ∨ word T (448 + v) ≠ word T (448 + u) := by
  have e := congrFun h.2.2.2.2.1 (i7474 v u hv hu)
  have e' : IntOp.ori (IntOp.ori (IntOp.ori (IntOp.ori (IntOp.cmpi .eq (BitVec.ofNat 32 v) (BitVec.ofNat 32 u))
      (~~~ (IntOp.cmpi .slt (BitVec.ofNat 32 v) (IntOp.muli 2#32 (word T 0))))) (~~~ (IntOp.cmpi .slt (BitVec.ofNat 32 u) (IntOp.muli 2#32 (word T 0)))))
      (IntOp.cmpi .ne (word T (192 + v)) (word T (192 + u)))) (IntOp.cmpi .ne (word T (448 + v)) (word T (448 + u))) = 1#1 := by
    rw [← e]
    simp only [Cert.Pre_plan.fn, Cert.Pre_plan.fn_part1, Cert.Pre_plan.fn_part2, Cert.Pre_plan.fn_part3, Cert.Pre_plan.fn_part4, Cert.Pre_plan.fn_where,
      andi, ori, noti, muli, cmpi, select, extractStridedSlice, shapeCast, constantI, iotaInDim, broadcastInDim, word_val T, S1_val]
    rfl
  simpa only [IntOp.cmpi, IntOp.muli, ori_ofBool, not_ofBool, ofBool_eq_one, Bool.or_eq_true, Bool.not_eq_true', beq_iff_eq, bne_iff_ne] using e'

theorem right_of (h : Holds T a1 a2 a3 a4) (v i : ℕ) (hv : v < 74) (hi : i < 37) :
    word T (192 + v) ≠ BitVec.ofNat 32 i
      ∨ word T (320 + v) = Scalar.select (BitVec.ofBool (word T (448 + v) == 0#32)) (word T (64 + i)) (word T (128 + i)) := by
  have e := congrFun h.2.2.2.2.2 (i7437 v i hv hi)
  have e' : IntOp.ori (IntOp.cmpi .ne (word T (192 + v)) (BitVec.ofNat 32 i))
      (IntOp.cmpi .eq (word T (320 + v)) (Scalar.select (BitVec.ofBool (word T (448 + v) == 0#32)) (word T (64 + i)) (word T (128 + i)))) = 1#1 := by
    rw [← e]
    simp only [Cert.Pre_plan.fn, Cert.Pre_plan.fn_part1, Cert.Pre_plan.fn_part2, Cert.Pre_plan.fn_part3, Cert.Pre_plan.fn_part4, Cert.Pre_plan.fn_where,
      andi, ori, noti, muli, cmpi, select, extractStridedSlice, shapeCast, constantI, iotaInDim, broadcastInDim, word_val T, S1_val]
    rfl
  simpa only [IntOp.cmpi, ori_ofBool, ofBool_eq_one, Bool.or_eq_true, beq_iff_eq, bne_iff_ne] using e'

/-- The precondition gives the plan's facts. -/
theorem plan_of (h : Holds T a1 a2 a3 a4) : Plan (word T) := by
  have hn : 1 ≤ (word T 0).toNat ∧ (word T 0).toNat ≤ 37 := by
    obtain ⟨h1, h2⟩ := count_of h
    simp only [BitVec.sle, decide_eq_true_eq, BitVec.toInt, BitVec.toNat_ofNat] at h1 h2; omega
  have hlive : ∀ v, v < 74 → ((BitVec.ofNat 32 v).slt (2#32 * word T 0) = true ↔ v < 2 * (word T 0).toNat) := by
    intro v hv
    have e1 : (2#32 * word T 0).toNat = 2 * (word T 0).toNat := by
      rw [BitVec.toNat_mul]; simp only [BitVec.toNat_ofNat]; omega
    simp only [BitVec.slt, decide_eq_true_eq, BitVec.toInt, e1, BitVec.toNat_ofNat]; omega
  have hdead : ∀ v, v < 74 → ((BitVec.ofNat 32 v).slt (2#32 * word T 0) = false ↔ ¬ v < 2 * (word T 0).toNat) := by
    intro v hv; rw [← hlive v hv, Bool.not_eq_true]
  have hr : ∀ v, v < 74 → (word T (192 + v)).toNat < 37 ∧ (word T (320 + v)).toNat < 4 ∧ (word T (448 + v)).toNat < 2 := by
    intro v hv
    obtain ⟨⟨⟨⟨⟨h1, h2⟩, h3⟩, h4⟩, h5⟩, h6⟩ := ranges_of h v hv
    simp only [BitVec.sle, BitVec.slt, decide_eq_true_eq, BitVec.toInt, BitVec.toNat_ofNat] at h1 h2 h3 h4 h5 h6
    omega
  refine ⟨hn, fun v hv => (hr v hv).1, fun v hv => (hr v hv).2.1, fun v hv => (hr v hv).2.2, ?_, ?_, ?_, ?_⟩
  · intro v hv
    have hv' : v < 74 := by omega
    rcases used_of h v hv' with h1 | h1
    · exact absurd hv ((hdead v hv').mp h1)
    · have h2 := (hr v hv').1
      simp only [BitVec.slt, decide_eq_true_eq, BitVec.toInt] at h1; omega
  · intro v hv hge
    have e1 : v + 1 = 1 + v := Nat.add_comm _ _
    rcases tail_of h v (by omega) with h1 | h1
    · have := (hlive (1 + v) (by omega)).mp h1; omega
    · rw [e1]; simp only [Nat.zero_add] at h1; exact ⟨h1.1.1, h1.1.2, h1.2⟩
  · intro v v' hv hv' h1 h2
    rcases once_of h v v' (by omega) (by omega) with (((e | e) | e) | e) | e
    · have := congrArg BitVec.toNat e
      simp only [BitVec.toNat_ofNat] at this; omega
    · exact absurd hv ((hdead v (by omega)).mp e)
    · exact absurd hv' ((hdead v' (by omega)).mp e)
    · exact absurd h1 e
    · exact absurd h2 e
  · intro v i hv hi hvi
    rcases right_of h v i hv hi with e | e
    · exact absurd (by apply BitVec.eq_of_toNat_eq; rw [hvi, BitVec.toNat_ofNat]; omega) e
    · rw [e]; unfold Scalar.select
      by_cases hs : (word T (448 + v)).toNat = 0
      · have : word T (448 + v) = 0#32 := BitVec.eq_of_toNat_eq hs
        simp [this]
      · have : word T (448 + v) ≠ 0#32 := fun e => hs (by rw [e]; rfl)
        rw [if_neg hs, show (word T (448 + v) == 0#32) = false from by simpa using this]
        rfl

end Decode

end Cert.Up
-- ==== Proof.BitsRun.lean ====
/- The kernel body run once on symbolic staging memrefs and a symbolic table: a visit the plan uses (path A: both output
   blocks and the scratch are written) and a visit past the plan's end (path B: nothing is touched). -/
module

public import proofs.«01_k».proof.Defs
public import proofs.«01_k».proof.Proof.Gen.Kernel
public import proofs.«01_k».proof.Proof.Gen.Kernel.Launch
public import proofs.«01_k».proof.Proof.Gen.Kernel.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Up

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the program logic at this instance. -/
local notation "𝕄" => MT nD τ sig Unit (Elt Bits) ℕ (UR sig nD τ) ℕ

/-- The table and the scratch the kernel is handed, whole, at their literal types. -/
abbrev tbM0_0 : Memref sig .tc .smem S576 .i32 := Memref.whole main_arg0
abbrev scM0_0 : Memref sig .tc .vmem S256x2816 .f32 := Memref.whole cc0_scratch0

/-! ## The kernel body per control path -/

/-- One staging buffer of output window 4, through which its contents are stated (`View.read_writes_of_cover`). -/
abbrev VO0_4 : View sig .tc .vmem S1x256x2816 .fp8e4m3 := (Memref.whole cc0_stg4_0 : Memref sig .tc .vmem S1x256x2816 .fp8e4m3).view
/-- One staging buffer of output window 5, through which its contents are stated (`View.read_writes_of_cover`). -/
abbrev VO0_5 : View sig .tc .vmem S1x256x128 .f32 := (Memref.whole cc0_stg5_0 : Memref sig .tc .vmem S1x256x128 .f32).view

set_option backward.proofsInPublic true in
set_option maxHeartbeats 8000000 in
/-- PATH A (a visit in use): what the body leaves in each output block and in the scratch, together with the proof that
    from the inputs at their blocks, the table and any contents of the outputs and the scratch, the body runs to the
    continuation holding exactly that. -/
noncomputable def kernelRun0_A (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Bits .i32))
     (x0 : (S256x2816.Idx → Elt Bits .fp8e4m3)) (x1 : (S256x384.Idx → Elt Bits .f32)) (x2 : (S1x2816x5632.Idx → Elt Bits .fp8e4m3)) (x3 : (S4x5632.Idx → Elt Bits .f32)) (k0_h1 : k0_cond1 i (View.readAt (Elt Bits) (tbM0_0).view (Rect.unit (s := S576) ![0] S1.size inb_S576_S1_0).toLoadRect T0 (Shape.Idx.first (numel1_S1.symm ▸ Nat.one_pos))) = 1#1) (k0_hw1 : k0_chk1 i (View.readAt (Elt Bits) (tbM0_0).view (Rect.unit (s := S576) ![0] S1.size inb_S576_S1_0).toLoadRect T0 (Shape.Idx.first (numel1_S1.symm ▸ Nat.one_pos))) (View.readAt (Elt Bits) (tbM0_0).view (Rect.unit (s := S576) (k0_off2 i) S1.size (k0_off2_inb i)).toLoadRect T0 (Shape.Idx.first (numel1_S1.symm ▸ Nat.one_pos)))) :
    Σ' (out0 : List (View.Piece (Elt Bits) S1x256x2816 .fp8e4m3)) (out1 : List (View.Piece (Elt Bits) S1x256x128 .f32)), { out2 : Buf (Elt Bits) ((c : Thread nD τ).loc cc0_scratch0) //
      ∀ (xa0 : Buf (Elt Bits) ((c : Thread nD τ).loc cc0_scratch0)) (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (tbM0_0.view.loc (c : Thread nD τ) ↦{fullShare.right} T0)
          ∗ (∃ d, owns (c : Thread nD τ) arg6 fullShare d)
          ∗ (∃ d, owns (c : Thread nD τ) arg7 fullShare d)
          ∗ (scM0_0.view.loc (c : Thread nD τ) ↦{fullShare} xa0)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (tbM0_0.view.loc (c : Thread nD τ) ↦{fullShare.right} T0)
              ∗ (∃ f, arg6.view.loc (c : Thread nD τ) ↦[arg6.view.set]{fullShare} arg6.view.writes (Elt Bits) f out0)
              ∗ (∃ f, arg7.view.loc (c : Thread nD τ) ↦[arg7.view.set]{fullShare} arg7.view.writes (Elt Bits) f out1)
              ∗ (scM0_0.view.loc (c : Thread nD τ) ↦{fullShare} out2)) -∗ K ⟨⟩))
          ⊢ wp frame (wpE (defs₀ (F := Bits)) Variants.none c none) Set.univ (cc0_up i tbM0_0 (Memref.isWhole_whole _) arg2 harg2 arg3 harg3 arg4 harg4 arg5 harg5 arg6 harg6 arg7 harg7 scM0_0 (Memref.isWhole_whole _)) K } :=
  ⟨_, _, _, fun (xa0 : Buf (Elt Bits) ((c : Thread nD τ).loc cc0_scratch0)) K => by
    unfold owns
    rw [cc0_up_eq_skeleton]; unfold cc0_up_skel
    iintro ⟨H0, H1, H2, H3, HT0, ⟨%d4, %f4, -, HO4⟩, ⟨%d5, %f5, -, HO5⟩, HS0, Hk⟩
    have hS0 : scM0_0.IsWhole := Memref.isWhole_whole _
    have hT0 : tbM0_0.IsWhole := Memref.isWhole_whole _
    sl_exec! (disch := first | (guard_target = k0_cond1 _ _ = _; exact k0_h1) | (guard_target = k0_chk1 _ _ _; exact k0_hw1))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    isplitl [HO5]; · iexists _; iexact HO5
    iexact HS0⟩

/-- Path A's pieces for output 4 tile its block (1 store of `S1x256x2816`: the kernel evaluates the tiling, Lib/Ring.lean `Piece.tiledL`). -/
theorem cover0_A_4 (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Bits .i32))
     (x0 : (S256x2816.Idx → Elt Bits .fp8e4m3)) (x1 : (S256x384.Idx → Elt Bits .f32)) (x2 : (S1x2816x5632.Idx → Elt Bits .fp8e4m3)) (x3 : (S4x5632.Idx → Elt Bits .f32)) (k0_h1 : k0_cond1 i (View.readAt (Elt Bits) (tbM0_0).view (Rect.unit (s := S576) ![0] S1.size inb_S576_S1_0).toLoadRect T0 (Shape.Idx.first (numel1_S1.symm ▸ Nat.one_pos))) = 1#1) (k0_hw1 : k0_chk1 i (View.readAt (Elt Bits) (tbM0_0).view (Rect.unit (s := S576) ![0] S1.size inb_S576_S1_0).toLoadRect T0 (Shape.Idx.first (numel1_S1.symm ▸ Nat.one_pos))) (View.readAt (Elt Bits) (tbM0_0).view (Rect.unit (s := S576) (k0_off2 i) S1.size (k0_off2_inb i)).toLoadRect T0 (Shape.Idx.first (numel1_S1.symm ▸ Nat.one_pos)))) (y : S1x256x2816.Idx) :
    ∃ pc ∈ (kernelRun0_A c i arg2 harg2 arg3 harg3 arg4 harg4 arg5 harg5 arg6 harg6 arg7 harg7 T0 x0 x1 x2 x3 k0_h1 k0_hw1).1, y ∈ pc.1.set :=
  View.cover_of_tiledL (kernelRun0_A c i arg2 harg2 arg3 harg3 arg4 harg4 arg5 harg5 arg6 harg6 arg7 harg7 T0 x0 x1 x2 x3 k0_h1 k0_hw1).1 S1x256x2816.size (by sl_kernel_rfl) y

/-- What path A leaves in output 4's staging buffer: its pieces read back over junk. -/
def out0_A_4 (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Bits .i32))
     (x0 : (S256x2816.Idx → Elt Bits .fp8e4m3)) (x1 : (S256x384.Idx → Elt Bits .f32)) (x2 : (S1x2816x5632.Idx → Elt Bits .fp8e4m3)) (x3 : (S4x5632.Idx → Elt Bits .f32)) (k0_h1 : k0_cond1 i (View.readAt (Elt Bits) (tbM0_0).view (Rect.unit (s := S576) ![0] S1.size inb_S576_S1_0).toLoadRect T0 (Shape.Idx.first (numel1_S1.symm ▸ Nat.one_pos))) = 1#1) (k0_hw1 : k0_chk1 i (View.readAt (Elt Bits) (tbM0_0).view (Rect.unit (s := S576) ![0] S1.size inb_S576_S1_0).toLoadRect T0 (Shape.Idx.first (numel1_S1.symm ▸ Nat.one_pos))) (View.readAt (Elt Bits) (tbM0_0).view (Rect.unit (s := S576) (k0_off2 i) S1.size (k0_off2_inb i)).toLoadRect T0 (Shape.Idx.first (numel1_S1.symm ▸ Nat.one_pos)))) : (S1x256x2816.Idx → Elt Bits .fp8e4m3) :=
  VO0_4.read (Elt Bits) (VO0_4.writes (Elt Bits) VO0_4.junk (kernelRun0_A c i arg2 harg2 arg3 harg3 arg4 harg4 arg5 harg5 arg6 harg6 arg7 harg7 T0 x0 x1 x2 x3 k0_h1 k0_hw1).1)

/-- Path A's pieces for output 5 tile its block (1 store of `S1x256x128`: the kernel evaluates the tiling, Lib/Ring.lean `Piece.tiledL`). -/
theorem cover0_A_5 (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Bits .i32))
     (x0 : (S256x2816.Idx → Elt Bits .fp8e4m3)) (x1 : (S256x384.Idx → Elt Bits .f32)) (x2 : (S1x2816x5632.Idx → Elt Bits .fp8e4m3)) (x3 : (S4x5632.Idx → Elt Bits .f32)) (k0_h1 : k0_cond1 i (View.readAt (Elt Bits) (tbM0_0).view (Rect.unit (s := S576) ![0] S1.size inb_S576_S1_0).toLoadRect T0 (Shape.Idx.first (numel1_S1.symm ▸ Nat.one_pos))) = 1#1) (k0_hw1 : k0_chk1 i (View.readAt (Elt Bits) (tbM0_0).view (Rect.unit (s := S576) ![0] S1.size inb_S576_S1_0).toLoadRect T0 (Shape.Idx.first (numel1_S1.symm ▸ Nat.one_pos))) (View.readAt (Elt Bits) (tbM0_0).view (Rect.unit (s := S576) (k0_off2 i) S1.size (k0_off2_inb i)).toLoadRect T0 (Shape.Idx.first (numel1_S1.symm ▸ Nat.one_pos)))) (y : S1x256x128.Idx) :
    ∃ pc ∈ (kernelRun0_A c i arg2 harg2 arg3 harg3 arg4 harg4 arg5 harg5 arg6 harg6 arg7 harg7 T0 x0 x1 x2 x3 k0_h1 k0_hw1).2.1, y ∈ pc.1.set :=
  View.cover_of_tiledL (kernelRun0_A c i arg2 harg2 arg3 harg3 arg4 harg4 arg5 harg5 arg6 harg6 arg7 harg7 T0 x0 x1 x2 x3 k0_h1 k0_hw1).2.1 S1x256x128.size (by sl_kernel_rfl) y

/-- What path A leaves in output 5's staging buffer: its pieces read back over junk. -/
def out0_A_5 (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Bits .i32))
     (x0 : (S256x2816.Idx → Elt Bits .fp8e4m3)) (x1 : (S256x384.Idx → Elt Bits .f32)) (x2 : (S1x2816x5632.Idx → Elt Bits .fp8e4m3)) (x3 : (S4x5632.Idx → Elt Bits .f32)) (k0_h1 : k0_cond1 i (View.readAt (Elt Bits) (tbM0_0).view (Rect.unit (s := S576) ![0] S1.size inb_S576_S1_0).toLoadRect T0 (Shape.Idx.first (numel1_S1.symm ▸ Nat.one_pos))) = 1#1) (k0_hw1 : k0_chk1 i (View.readAt (Elt Bits) (tbM0_0).view (Rect.unit (s := S576) ![0] S1.size inb_S576_S1_0).toLoadRect T0 (Shape.Idx.first (numel1_S1.symm ▸ Nat.one_pos))) (View.readAt (Elt Bits) (tbM0_0).view (Rect.unit (s := S576) (k0_off2 i) S1.size (k0_off2_inb i)).toLoadRect T0 (Shape.Idx.first (numel1_S1.symm ▸ Nat.one_pos)))) : (S1x256x128.Idx → Elt Bits .f32) :=
  VO0_5.read (Elt Bits) (VO0_5.writes (Elt Bits) VO0_5.junk (kernelRun0_A c i arg2 harg2 arg3 harg3 arg4 harg4 arg5 harg5 arg6 harg6 arg7 harg7 T0 x0 x1 x2 x3 k0_h1 k0_hw1).2.1)

set_option backward.proofsInPublic true in
/-- PATH B (a visit past the plan's end): the body reads the count and does nothing else. -/
theorem kernelRun0_B (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Bits .i32))
    (k0_h1 : ¬ k0_cond1 i (View.readAt (Elt Bits) (tbM0_0).view (Rect.unit (s := S576) ![0] S1.size inb_S576_S1_0).toLoadRect T0 (Shape.Idx.first (numel1_S1.symm ▸ Nat.one_pos))) = 1#1) (K : PUnit → sProp 𝕄) :
    iprop((tbM0_0.view.loc (c : Thread nD τ) ↦{fullShare.right} T0)
        ∗ ((tbM0_0.view.loc (c : Thread nD τ) ↦{fullShare.right} T0) -∗ K ⟨⟩))
      ⊢ wp frame (wpE (defs₀ (F := Bits)) Variants.none c none) Set.univ (cc0_up i tbM0_0 (Memref.isWhole_whole _) arg2 harg2 arg3 harg3 arg4 harg4 arg5 harg5 arg6 harg6 arg7 harg7 scM0_0 (Memref.isWhole_whole _)) K := by
  rw [cc0_up_eq_skeleton]; unfold cc0_up_skel
  iintro ⟨HT0, Hk⟩
  have hT0 : tbM0_0.IsWhole := Memref.isWhole_whole _
  sl_exec! (disch := first | (guard_target = ¬ k0_cond1 _ _ = _; exact k0_h1))
  sl_step
  iapply Hk
  iexact HT0

end Cert.Kernel.Up

end
-- ==== Proof.BitsWords.lean ====
/- The words the kernel and its index maps read from the plan table, the bounds they give, and the pipeline at that
   table. -/
module

public import proofs.«01_k».proof.Proof.Plan
public import proofs.«01_k».proof.Proof.BitsRun

@[expose] public section

set_option maxRecDepth 16384

noncomputable section

namespace Cert.Kernel.Up

open Cert.Kernel Cert.Kernel.Gen Cert.Up
open Idealize.ShloMosaic
open Idealize.ShloMosaic.TcCoe Idealize.ShloMosaic.Tactic
open Idealize.ShloMosaic.Pipeline (Dat Cfg Window)

/-! ## Numbers -/

/-- The number of a table position `k + v` computed in 32-bit words. -/
theorem toNat_off (k v : ℕ) (hk : k < 500) (hv : v < 74) :
    (Scalar.indexCast (Scalar.addi (BitVec.ofNat 32 k) (BitVec.ofNat 32 v)) : Index).toNat = k + v := by
  show (BitVec.ofNat 32 k + BitVec.ofNat 32 v).toNat = k + v
  rw [BitVec.toNat_add, BitVec.toNat_ofNat, BitVec.toNat_ofNat]
  omega

/-- A point's number is its one coordinate, -/
theorem crd_val : ∀ t : Fin grid0.N, (grid0.coords t 0).val = t.val := by decide +kernel

/-- below 74. -/
theorem crd_lt (i : grid0.Coords) : (i 0).val < 74 := (i 0).isLt

variable (T : S576.Idx → BitVec 32)

/-- The table as the contents of the one prefetched buffer. -/
def pfN : pre0.Contents (Elt Bits) := fun
  | ⟨0, _⟩ => T
  | ⟨_ + 1, h⟩ => absurd h (by simp)

/-- What an index map reads at offset `k`. -/
theorem pf_at (off : Fin 1 → ℕ) (h : ∀ a, off a + S1.size a ≤ S576.size a) (k : ℕ) (hk : off 0 = k) :
    (pfN T).at 0 (Rect.unit (s := S576) off S1.size h) numel1_S1 = word T k := by
  subst hk
  exact (word_val T _).trans (congrArg (word T) (by show off 0 + 1 * 0 = off 0; omega))

/-- What the body reads at offset `k`. -/
theorem body_read (off : Fin 1 → ℕ) (h : ∀ a, off a + S1.size a ≤ S576.size a) (k : ℕ) (hk : off 0 = k) :
    View.readAt (Elt Bits) (tbM0_0).view (Rect.unit (s := S576) off S1.size h).toLoadRect T
      (Shape.Idx.first (numel1_S1.symm ▸ Nat.one_pos)) = word T k := by
  subst hk
  exact (word_val T _).trans (congrArg (word T) (by show off 0 + 1 * 0 = off 0; omega))

/-- The table's first word, as the outputs' idleness test reads it. -/
theorem pf_atD : (pfN T).atD 0 ![0] = word T 0 := by
  have h : ∀ a : Fin 1, (![0] : Fin 1 → ℕ) a + 1 ≤ S576.size a := by decide
  exact (dif_pos h).trans (word_val T _)

/-- The idleness test of the outputs, at the table. -/
theorem idle_word (i : grid0.Coords) : idle0 (pfN T) (4 : Fin 6) i = !(k0_cond1 i (word T 0) == 1#1) :=
  congrArg (fun w : BitVec 32 => !(k0_cond1 i w == 1#1)) (pf_atD T)

/-- The body's branch is taken at visit `v` exactly if `v < 2 n`. -/
theorem cond_iff (i : grid0.Coords) (w : BitVec 32) (hw : w.toNat ≤ 37) :
    k0_cond1 i w = 1#1 ↔ (i 0).val < 2 * w.toNat := by
  have hi := crd_lt i
  have e1 : (BitVec.ofNat 32 (i 0).val).toInt = ((i 0).val : ℤ) := by
    rw [BitVec.toInt_eq_toNat_of_lt (by rw [BitVec.toNat_ofNat]; omega), BitVec.toNat_ofNat]
    omega
  have e2 : ((2#32 : BitVec 32) * w).toInt = (2 * w.toNat : ℤ) := by
    have h : ((2#32 : BitVec 32) * w).toNat = 2 * w.toNat := by
      rw [BitVec.toNat_mul]; simp; omega
    rw [BitVec.toInt_eq_toNat_of_lt (by rw [h]; omega), h]
    push_cast; rfl
  have key : (BitVec.ofNat 32 (i 0).val).slt ((2#32 : BitVec 32) * w) = decide ((i 0).val < 2 * w.toNat) := by
    unfold BitVec.slt
    rw [e1, e2]
    exact decide_eq_decide.mpr (by omega)
  show Scalar.cmpi .ne (Scalar.extui (BitVec.ofBool ((BitVec.ofNat 32 (i 0).val).slt ((2#32 : BitVec 32) * w)))) 0#32 = 1#1 ↔ _
  rw [key]
  by_cases hlt : (i 0).val < 2 * w.toNat
  · simp only [hlt, decide_true, iff_true]; decide
  · simp only [hlt, decide_false, iff_false]; decide

/-! ## The index maps -/

theorem k1_off (i : grid0.Coords) (k : ℕ) (hk : k < 500) :
    k0_off1 i (BitVec.ofNat 32 k) 0 = k + (i 0).val := toNat_off k _ hk (crd_lt i)
theorem k2_off (i : grid0.Coords) : k0_off2 i 0 = 320 + (i 0).val := toNat_off 320 _ (by decide) (crd_lt i)

theorem tr0_eq (i : grid0.Coords) : cc0_transform_0 k0_off1_inb numel1_S1 (pfN T) i = ![(word T (192 + (i 0).val)).toNat, 0] := by
  have h := pf_at T (k0_off1 i (BitVec.ofNat 32 192)) (k0_off1_inb i 0) _ (k1_off i 192 (by decide))
  unfold cc0_transform_0
  exact congrArg (fun w : BitVec 32 => ![w.toNat, 0]) h
theorem tr1_eq (i : grid0.Coords) : cc0_transform_1 k0_off1_inb numel1_S1 (pfN T) i = ![(word T (192 + (i 0).val)).toNat, 0] := by
  have h := pf_at T (k0_off1 i (BitVec.ofNat 32 192)) (k0_off1_inb i 0) _ (k1_off i 192 (by decide))
  unfold cc0_transform_1
  exact congrArg (fun w : BitVec 32 => ![w.toNat, 0]) h
theorem tr2_eq (i : grid0.Coords) : cc0_transform_2 k0_off1_inb numel1_S1 (pfN T) i = ![(word T (320 + (i 0).val)).toNat, 0, 0] := by
  have h := pf_at T (k0_off1 i (BitVec.ofNat 32 320)) (k0_off1_inb i 1) _ (k1_off i 320 (by decide))
  unfold cc0_transform_2
  exact congrArg (fun w : BitVec 32 => ![w.toNat, 0, 0]) h
theorem tr4_eq (i : grid0.Coords) : cc0_transform_4 k0_off1_inb numel1_S1 (pfN T) i
    = ![(word T (448 + (i 0).val)).toNat, (word T (192 + (i 0).val)).toNat, 0] := by
  have h := pf_at T (k0_off1 i (BitVec.ofNat 32 192)) (k0_off1_inb i 0) _ (k1_off i 192 (by decide))
  have h' := pf_at T (k0_off1 i (BitVec.ofNat 32 448)) (k0_off1_inb i 2) _ (k1_off i 448 (by decide))
  unfold cc0_transform_4
  exact congrArg₂ (fun w w' : BitVec 32 => ![w'.toNat, w.toNat, 0]) h h'
theorem tr5_eq (i : grid0.Coords) : cc0_transform_5 k0_off1_inb numel1_S1 (pfN T) i
    = ![(word T (448 + (i 0).val)).toNat, (word T (192 + (i 0).val)).toNat, 0] := by
  have h := pf_at T (k0_off1 i (BitVec.ofNat 32 192)) (k0_off1_inb i 0) _ (k1_off i 192 (by decide))
  have h' := pf_at T (k0_off1 i (BitVec.ofNat 32 448)) (k0_off1_inb i 2) _ (k1_off i 448 (by decide))
  unfold cc0_transform_5
  exact congrArg₂ (fun w w' : BitVec 32 => ![w'.toNat, w.toNat, 0]) h h'

/-! ## The bounds -/

variable {T} (hp : Plan (word T))
include hp

/-- Every block a visit names lies inside its array. -/
theorem ok_pfN : ok0 (F := Bits) (pfN T) := by
  refine ⟨fun i => ⟨?_, .inr (Affine.block_words_dvd (s := S9472x2816) (p := EltTy.packing .fp8e4m3) (by decide) (by decide))⟩,
    fun i => ⟨?_, .inl rfl⟩,
    fun i => ⟨?_, .inr (Affine.block_words_dvd (s := S4x2816x5632) (p := EltTy.packing .fp8e4m3) (by decide) (by decide))⟩,
    fun i => ⟨?_, .inr (Affine.block_words_dvd (s := S2x9472x2816) (p := EltTy.packing .fp8e4m3) (by decide) (by decide))⟩,
    fun i => ⟨?_, .inl rfl⟩⟩
  all_goals
    have h1 := hp.tile_lt _ (crd_lt i)
    have h2 := hp.expert_lt _ (crd_lt i)
    have h3 := hp.slot_lt _ (crd_lt i)
    intro a
  · rw [tr0_eq]; fin_cases a
    · show ((word T (192 + (i 0).val)).toNat + 1) * 256 ≤ 9472; omega
    · show (0 + 1) * 2816 ≤ 2816; omega
  · rw [tr1_eq]; fin_cases a
    · show ((word T (192 + (i 0).val)).toNat + 1) * 256 ≤ 9472; omega
    · show (0 + 1) * 384 ≤ 384; omega
  · rw [tr2_eq]; fin_cases a
    · show ((word T (320 + (i 0).val)).toNat + 1) * 1 ≤ 4; omega
    · show (0 + 1) * 2816 ≤ 2816; omega
    · show (0 + 1) * 5632 ≤ 5632; omega
  · rw [tr4_eq]; fin_cases a
    · show ((word T (448 + (i 0).val)).toNat + 1) * 1 ≤ 2; omega
    · show ((word T (192 + (i 0).val)).toNat + 1) * 256 ≤ 9472; omega
    · show (0 + 1) * 2816 ≤ 2816; omega
  · rw [tr5_eq]; fin_cases a
    · show ((word T (448 + (i 0).val)).toNat + 1) * 1 ≤ 2; omega
    · show ((word T (192 + (i 0).val)).toNat + 1) * 256 ≤ 9472; omega
    · show (0 + 1) * 128 ≤ 128; omega

omit hp in
/-- Every row of the scale array an expert below four names lies inside it. -/
theorem chk_of (i : grid0.Coords) (v0 v7 : BitVec 32) (h : v7.toNat < 4) : k0_chk1 i v0 v7 := by
  unfold k0_chk1
  repeat' apply And.intro
  all_goals
    intro _ a
    fin_cases a
    · show v7.toNat + 1 ≤ 4; omega
    · exact Nat.le_of_ble_eq_true rfl

/-- The pipeline at the table. -/
def adm : (pcfg0 (F := Bits)).Adm := ⟨pfN T, ok_pfN hp⟩
abbrev cfgA : Pipeline.Cfg sig Λ₀ := cfg0 (F := Bits) (adm hp)
abbrev pcs : Fin 1 → Pipeline.Cfg sig Λ₀ := Pipeline.pin (pcfgs (F := Bits)) fun _ => adm hp

/-- The number of used visits. -/
abbrev used (T : S576.Idx → BitVec 32) : ℕ := 2 * (word T 0).toNat

theorem used_pos : 2 ≤ used T := by have := hp.count; unfold used; omega
theorem used_le : used T ≤ 74 := by have := hp.count; unfold used; omega

/-! ## The schedule of the two outputs -/

theorem idle4_eq (t : Fin (cfgA hp).N) : (cfgA hp).idle (4 : Fin 6) ((cfgA hp).grid.coords t) = decide (used T ≤ t.val) := by
  refine (idle_word T (grid0.coords t)).trans ?_
  have h := cond_iff (grid0.coords t) (word T 0) hp.count.2
  rw [crd_val t] at h
  by_cases hc : k0_cond1 (grid0.coords t) (word T 0) = 1#1
  · have := h.mp hc
    rw [hc]; symm; simpa using this
  · have h2 : ¬ t.val < 2 * (word T 0).toNat := fun h' => hc (h.mpr h')
    have h3 : (k0_cond1 (grid0.coords t) (word T 0) == 1#1) = false := by simpa using hc
    rw [h3, decide_eq_true (show used T ≤ t.val from Nat.not_lt.mp h2)]; rfl
theorem idle5_eq (t : Fin (cfgA hp).N) : (cfgA hp).idle (5 : Fin 6) ((cfgA hp).grid.coords t) = decide (used T ≤ t.val) := idle4_eq hp t

theorem index4_eq (t : Fin (cfgA hp).N) : ((cfgA hp).win (4 : Fin 6)).index t
    = ![(word T (448 + t.val)).toNat, (word T (192 + t.val)).toNat, 0] := by
  have h := tr4_eq T (grid0.coords t)
  rw [crd_val t] at h
  exact h
theorem index5_eq (t : Fin (cfgA hp).N) : ((cfgA hp).win (5 : Fin 6)).index t
    = ![(word T (448 + t.val)).toNat, (word T (192 + t.val)).toNat, 0] := by
  have h := tr5_eq T (grid0.coords t)
  rw [crd_val t] at h
  exact h

/-- An output whose block is the visit's (slot, tile) is not written back between a visit and a repetition of it. -/
theorem flush_tail (w : Fin 6) (hi : ∀ t : Fin (cfgA hp).N, ∀ t' : Fin (cfgA hp).N, t'.val = t.val + 1 → used T ≤ t'.val → ((cfgA hp).win w).index t' = ((cfgA hp).win w).index t)
    (t : Fin (cfgA hp).N) (h : t.val + 1 < 74) (hu : used T ≤ t.val + 1) : ((cfgA hp).win w).flush t = false := by
  unfold Window.flush
  have hN : (cfgA hp).N = 74 := N_0
  have h1 : ¬ (t.val + 1 = (cfgA hp).N) := by omega
  have h2 : ¬ ∃ h : t.val + 1 < (cfgA hp).grid.N, ((cfgA hp).win w).index ⟨t.val + 1, h⟩ ≠ ((cfgA hp).win w).index t :=
    fun ⟨h', h2⟩ => h2 (hi t ⟨t.val + 1, h'⟩ rfl hu)
  rw [decide_eq_false h1, decide_eq_false h2, Bool.false_or, Bool.and_false]

theorem tail4 (t t' : Fin (cfgA hp).N) (e : t'.val = t.val + 1) (hu : used T ≤ t'.val) :
    ((cfgA hp).win (4 : Fin 6)).index t' = ((cfgA hp).win (4 : Fin 6)).index t := by
  have hN : (cfgA hp).N = 74 := N_0
  have ht := t'.isLt
  obtain ⟨h1, -, h3⟩ := hp.tail t.val (by omega) (by unfold used at hu; omega)
  rw [index4_eq, index4_eq, e, h1, h3]
theorem tail5 (t t' : Fin (cfgA hp).N) (e : t'.val = t.val + 1) (hu : used T ≤ t'.val) :
    ((cfgA hp).win (5 : Fin 6)).index t' = ((cfgA hp).win (5 : Fin 6)).index t := by
  rw [index5_eq, index5_eq, ← index4_eq, ← index4_eq]; exact tail4 hp t t' e hu

/-- At a visit past the used ones an output's buffer still holds what the last used visit left. -/
theorem fresh_idle (w : Fin 6) (hi : ∀ t : Fin (cfgA hp).N, ∀ t' : Fin (cfgA hp).N, t'.val = t.val + 1 → used T ≤ t'.val → ((cfgA hp).win w).index t' = ((cfgA hp).win w).index t)
    (hid : ∀ t : Fin (cfgA hp).N, (cfgA hp).idle w ((cfgA hp).grid.coords t) = decide (used T ≤ t.val)) :
    ∀ n, used T ≤ n → n < 74 → (cfgA hp).fresh w n = false
  | 0, h, _ => by have := used_pos hp; omega
  | n + 1, h, hn => by
    have hN : (cfgA hp).N = 74 := N_0
    rw [Pipeline.Cfg.fresh_succ (cfgA hp) w n (by omega), hid,
      flush_tail hp w hi ⟨n, by omega⟩ hn h, Bool.false_or]
    by_cases hu : used T ≤ n
    · rw [fresh_idle w hi hid n hu (by omega), Bool.and_false]
    · simp [hu]

theorem fresh4 (t : Fin (cfgA hp).N) (h : used T ≤ t.val) : (cfgA hp).fresh (4 : Fin 6) t.val = false :=
  fresh_idle hp 4 (tail4 hp) (idle4_eq hp) t.val h (by have := t.isLt; have hN : (cfgA hp).N = 74 := N_0; omega)
theorem fresh5 (t : Fin (cfgA hp).N) (h : used T ≤ t.val) : (cfgA hp).fresh (5 : Fin 6) t.val = false :=
  fresh_idle hp 5 (tail5 hp) (idle5_eq hp) t.val h (by have := t.isLt; have hN : (cfgA hp).N = 74 := N_0; omega)

/-! ## The body's decision at a point -/

theorem word0_read : View.readAt (Elt Bits) (tbM0_0).view (Rect.unit (s := S576) ![0] S1.size inb_S576_S1_0).toLoadRect T
      (Shape.Idx.first (numel1_S1.symm ▸ Nat.one_pos)) = word T 0 := body_read T _ _ 0 rfl

theorem hcond (t : Fin (cfgA hp).N) (h : t.val < used T) :
    k0_cond1 ((cfgA hp).grid.coords t) (View.readAt (Elt Bits) (tbM0_0).view (Rect.unit (s := S576) ![0] S1.size inb_S576_S1_0).toLoadRect T (Shape.Idx.first (numel1_S1.symm ▸ Nat.one_pos))) = 1#1 := by
  rw [word0_read hp]
  exact (cond_iff (grid0.coords t) (word T 0) hp.count.2).mpr (by rw [crd_val t]; exact h)
theorem hncond (t : Fin (cfgA hp).N) (h : ¬ t.val < used T) :
    ¬ k0_cond1 ((cfgA hp).grid.coords t) (View.readAt (Elt Bits) (tbM0_0).view (Rect.unit (s := S576) ![0] S1.size inb_S576_S1_0).toLoadRect T (Shape.Idx.first (numel1_S1.symm ▸ Nat.one_pos))) = 1#1 := by
  rw [word0_read hp]
  exact fun hc => h (by have := (cond_iff (grid0.coords t) (word T 0) hp.count.2).mp hc; rwa [crd_val t] at this)
theorem hchk (i : grid0.Coords) :
    k0_chk1 i (View.readAt (Elt Bits) (tbM0_0).view (Rect.unit (s := S576) ![0] S1.size inb_S576_S1_0).toLoadRect T (Shape.Idx.first (numel1_S1.symm ▸ Nat.one_pos))) (View.readAt (Elt Bits) (tbM0_0).view (Rect.unit (s := S576) (k0_off2 i) S1.size (k0_off2_inb i)).toLoadRect T (Shape.Idx.first (numel1_S1.symm ▸ Nat.one_pos))) := by
  apply chk_of
  rw [body_read T _ _ _ (k2_off i)]
  exact hp.expert_lt _ (crd_lt i)

end Cert.Kernel.Up

end
-- ==== Proof.BitsBody.lean ====
/- The run of a used visit, restated with the buffers named by what they hold. -/
module

public import proofs.«01_k».proof.Proof.BitsRun
public import proofs.«01_k».proof.Proof.Gen.Kernel
public import proofs.«01_k».proof.Proof.Gen.Kernel.Launch
public import proofs.«01_k».proof.Proof.Gen.Kernel.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Up

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the program logic at this instance. -/
local notation "𝕄" => MT nD τ sig Unit (Elt Bits) ℕ (UR sig nD τ) ℕ

set_option maxHeartbeats 4000000 in
/-- A used visit's run, with the buffers named by what they hold: from the inputs' blocks, the table, and any contents of the
    outputs and the scratch, to the same inputs and the two outputs at their results. -/
theorem body_A (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Bits .i32))
     (x0 : (S256x2816.Idx → Elt Bits .fp8e4m3)) (x1 : (S256x384.Idx → Elt Bits .f32)) (x2 : (S1x2816x5632.Idx → Elt Bits .fp8e4m3)) (x3 : (S4x5632.Idx → Elt Bits .f32)) (k0_h1 : k0_cond1 i (View.readAt (Elt Bits) (tbM0_0).view (Rect.unit (s := S576) ![0] S1.size inb_S576_S1_0).toLoadRect T0 (Shape.Idx.first (numel1_S1.symm ▸ Nat.one_pos))) = 1#1) (k0_hw1 : k0_chk1 i (View.readAt (Elt Bits) (tbM0_0).view (Rect.unit (s := S576) ![0] S1.size inb_S576_S1_0).toLoadRect T0 (Shape.Idx.first (numel1_S1.symm ▸ Nat.one_pos))) (View.readAt (Elt Bits) (tbM0_0).view (Rect.unit (s := S576) (k0_off2 i) S1.size (k0_off2_inb i)).toLoadRect T0 (Shape.Idx.first (numel1_S1.symm ▸ Nat.one_pos)))) (K : PUnit → sProp 𝕄) :
    iprop(owns (c : Thread nD τ) arg2 fullShare x0
          ∗ owns (c : Thread nD τ) arg3 fullShare x1
          ∗ owns (c : Thread nD τ) arg4 fullShare x2
          ∗ owns (c : Thread nD τ) arg5 fullShare x3
          ∗ (tbM0_0.view.loc (c : Thread nD τ) ↦{fullShare.right} T0)
          ∗ (∃ d, owns (c : Thread nD τ) arg6 fullShare d)
          ∗ (∃ d, owns (c : Thread nD τ) arg7 fullShare d)
          ∗ (∃ a, scM0_0.view.loc (c : Thread nD τ) ↦{fullShare} a)
          ∗ (iprop(owns (c : Thread nD τ) arg2 fullShare x0
          ∗ owns (c : Thread nD τ) arg3 fullShare x1
          ∗ owns (c : Thread nD τ) arg4 fullShare x2
          ∗ owns (c : Thread nD τ) arg5 fullShare x3
              ∗ (tbM0_0.view.loc (c : Thread nD τ) ↦{fullShare.right} T0)
              ∗ owns (c : Thread nD τ) arg6 fullShare (out0_A_4 c i arg2 harg2 arg3 harg3 arg4 harg4 arg5 harg5 arg6 harg6 arg7 harg7 T0 x0 x1 x2 x3 k0_h1 k0_hw1)
              ∗ owns (c : Thread nD τ) arg7 fullShare (out0_A_5 c i arg2 harg2 arg3 harg3 arg4 harg4 arg5 harg5 arg6 harg6 arg7 harg7 T0 x0 x1 x2 x3 k0_h1 k0_hw1)
              ∗ (∃ a, scM0_0.view.loc (c : Thread nD τ) ↦{fullShare} a)) -∗ K ⟨⟩))
      ⊢ wp frame (wpE (defs₀ (F := Bits)) Variants.none c none) Set.univ (cc0_up i tbM0_0 (Memref.isWhole_whole _) arg2 harg2 arg3 harg3 arg4 harg4 arg5 harg5 arg6 harg6 arg7 harg7 scM0_0 (Memref.isWhole_whole _)) K := by
  iintro ⟨H0, H1, H2, H3, HT0, H4, H5, ⟨%a0, HS0⟩, HK⟩
  iapply ((kernelRun0_A c i arg2 harg2 arg3 harg3 arg4 harg4 arg5 harg5 arg6 harg6 arg7 harg7 T0 x0 x1 x2 x3 k0_h1 k0_hw1).2.2.2 a0 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [H4]; · iexact H4
  isplitl [H5]; · iexact H5
  isplitl [HS0]; · iexact HS0
  iintro ⟨H0, H1, H2, H3, HT0, ⟨%e4, H4⟩, ⟨%e5, H5⟩, HS0⟩
  iapply HK
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [H4]
  · unfold owns; iexists _; isplitr; swap
    · iexact H4
    · ipureintro; exact View.read_writes_of_cover _ _ _ _ _ (cover0_A_4 c _ _ _ _ _ _ _ _ _ _ _ _ _ _ _ _ _ _ _ _)
  isplitl [H5]
  · unfold owns; iexists _; isplitr; swap
    · iexact H5
    · ipureintro; exact View.read_writes_of_cover _ _ _ _ _ (cover0_A_5 c _ _ _ _ _ _ _ _ _ _ _ _ _ _ _ _ _ _ _ _)
  iexists _; iexact HS0

end Cert.Kernel.Up

end
-- ==== Proof.BitsFrame.lean ====
/- The kernel program runs: at any plan table the precondition admits, the pipeline's proof data, the body's obligation at
   every visit, the launch, and the final state. -/
module

public import proofs.«01_k».proof.Proof.BitsWords
public import proofs.«01_k».proof.Proof.BitsBody
public import Idealize.ShloMosaic.Lib.Pipeline.FrameSuffix
public import Idealize.ShloMosaic.Lib.Pipeline.Quiescent
public import Idealize.ShloMosaic.Lib.Claim

@[expose] public section

set_option maxRecDepth 16384

noncomputable section

namespace Cert.Kernel.Up

open Cert.Kernel Cert.Kernel.Gen Cert.Up
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the program logic at this instance. -/
local notation "𝕄" => MT nD τ sig Unit (Elt Bits) ℕ (UR sig nD τ) ℕ

variable {T : S576.Idx → BitVec 32} (hp : Plan (word T))
variable (m : (ℓ : Loc nD τ sig) → Buf (Elt Bits) ℓ)

/-! ## The memory the region finds -/

/-- Core `c`'s buffers when the region is entered: after the host lines before it. -/
abbrev V0 (c : Dev nD) : Valuation τ sig (Elt Bits) := StableHlo.after (List.flatten [hostOps0]) (fun b => m (c, b))
/-- The same read at a reference. -/
abbrev V (c : Dev nD) (b : Ref sig .tc) : Buf (Elt Bits) ((c : Thread nD τ).loc b) := V0 m c (Proc.devRef .tc b)

/-- The host lines after the region. -/
abbrev sfx : List (List (HloOp τ sig (Elt Bits))) := [hostOps1, hostOps1_1, hostOps1_2, hostOps1_3]

/-- No host line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_v12_0`. -/
theorem V_main_v12_0 (c : Dev nD) : V m c main_v12_0 = m ((c : Thread nD τ).loc main_v12_0) :=
  StableHlo.after_of_forall_not_mem (b := Proc.devRef .tc main_v12_0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_v12_1`. -/
theorem V_main_v12_1 (c : Dev nD) : V m c main_v12_1 = m ((c : Thread nD τ).loc main_v12_1) :=
  StableHlo.after_of_forall_not_mem (b := Proc.devRef .tc main_v12_1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hostOps0_fresh : (hostOps0 : List (HloOp τ sig (Elt Bits))).Forall fun op => op.fresh = ∅ := by
  simp only [List.Forall]; repeat' constructor
theorem hostOps1_fresh : (hostOps1 : List (HloOp τ sig (Elt Bits))).Forall fun op => op.fresh = ∅ := by
  simp only [List.Forall]; repeat' constructor
theorem hostOps1_1_fresh : (hostOps1_1 : List (HloOp τ sig (Elt Bits))).Forall fun op => op.fresh = ∅ := by
  simp only [List.Forall]; repeat' constructor
theorem hostOps1_2_fresh : (hostOps1_2 : List (HloOp τ sig (Elt Bits))).Forall fun op => op.fresh = ∅ := by
  simp only [List.Forall]; repeat' constructor
theorem hostOps1_3_fresh : (hostOps1_3 : List (HloOp τ sig (Elt Bits))).Forall fun op => op.fresh = ∅ := by
  simp only [List.Forall]; repeat' constructor

/-- @main around the region. -/
theorem hmain (𝒱₀ : Variants) : Pipeline.HMainPK (Ix := Unit) (Name := ℕ) (U := UR sig nD τ) (Lvl := ℕ) (pcfgs (F := Bits)) 0 defs₀ 𝒱₀ m (main (F := Bits))
      (fun c b => V0 m c (Proc.devRef .tc b)) (fun _ => Pipeline.chain (sfx.map StableHlo.seq)) :=
  Pipeline.hmainP_around (pcfgs (F := Bits)) 0 defs₀ 𝒱₀ m main [hostOps0] sfx (by simp only [List.Forall]; exact hostOps0_sub)
    (by simp only [List.Forall]; exact hostOps0_fresh) main_chain

/-- A host line after the region does not touch the table, -/
theorem sfx_table : ∀ ops ∈ sfx, ∀ op ∈ ops, ∀ k : Fin 1, Proc.devRef .tc (pre0.ref k) ∉ op.bufs := by
  intro ops hops op hop k
  have hk : pre0.ref k = main_arg0 := by fin_cases k; rfl
  rw [hk]
  simp only [sfx, List.mem_cons, List.mem_nil_iff, or_false] at hops
  rcases hops with rfl | rfl | rfl | rfl
  all_goals
    simp only [hostOps1, hostOps1_1, hostOps1_2, hostOps1_3, List.mem_cons, List.mem_nil_iff, or_false] at hop
    rcases hop with rfl | rfl | rfl
    all_goals decide +kernel

/-- touches only arrays of the pipeline and buffers that bypass it, -/
theorem sfx_sub : ∀ ops ∈ sfx, ∀ op ∈ ops, op.bufs ⊆ Pipeline.tailRefs sig pre0 spec0 := by
  intro ops hops op hop
  refine Pipeline.sub_tailRefs pre0 spec0 op ?_ (sfx_table ops hops op hop)
  simp only [sfx, List.mem_cons, List.mem_nil_iff, or_false] at hops
  rcases hops with rfl | rfl | rfl | rfl
  · exact (List.forall_iff_forall_mem.mp hostOps1_sub) op hop
  · exact (List.forall_iff_forall_mem.mp hostOps1_1_sub) op hop
  · exact (List.forall_iff_forall_mem.mp hostOps1_2_sub) op hop
  · exact (List.forall_iff_forall_mem.mp hostOps1_3_sub) op hop
/-- allocates nothing, -/
theorem sfx_fresh : ∀ ops ∈ sfx, ∀ op ∈ ops, op.fresh = ∅ := by
  intro ops hops op hop
  simp only [sfx, List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
/-- and writes no array of the pipeline. -/
theorem sfx_keeps : ∀ ops ∈ sfx, ∀ op ∈ ops, ∀ w, Proc.devRef .tc (Pipeline.arrRef spec0 w) ∉ op.writes := by
  intro ops hops op hop
  simp only [sfx, List.mem_cons, List.mem_nil_iff, or_false] at hops
  rcases hops with rfl | rfl | rfl | rfl
  all_goals
    simp only [hostOps1, hostOps1_1, hostOps1_2, hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## A point's coordinates, staging memrefs and blocks -/

/-- Point `t`'s coordinates. -/
abbrev crd (t : Fin (cfgA hp).N) : (cfgA hp).grid.Coords := (cfgA hp).grid.coords t

abbrev ms0_0 (t : Fin (cfgA hp).N) : Memref sig .tc .vmem S256x2816 .fp8e4m3 := spec0_0.stage ((cfgA hp).slots t (0 : Fin 6))
abbrev hs0_0 (t : Fin (cfgA hp).N) : (ms0_0 hp t).IsWhole := hstage0_0 (((cfgA hp).slots t (0 : Fin 6)).cast nbuf0_0)
abbrev ms0_1 (t : Fin (cfgA hp).N) : Memref sig .tc .vmem S256x384 .f32 := spec0_1.stage ((cfgA hp).slots t (1 : Fin 6))
abbrev hs0_1 (t : Fin (cfgA hp).N) : (ms0_1 hp t).IsWhole := hstage0_1 (((cfgA hp).slots t (1 : Fin 6)).cast nbuf0_1)
abbrev ms0_2 (t : Fin (cfgA hp).N) : Memref sig .tc .vmem S1x2816x5632 .fp8e4m3 := spec0_2.stage ((cfgA hp).slots t (2 : Fin 6))
abbrev hs0_2 (t : Fin (cfgA hp).N) : (ms0_2 hp t).IsWhole := hstage0_2 (((cfgA hp).slots t (2 : Fin 6)).cast nbuf0_2)
abbrev ms0_3 (t : Fin (cfgA hp).N) : Memref sig .tc .vmem S4x5632 .f32 := spec0_3.stage ((cfgA hp).slots t (3 : Fin 6))
abbrev hs0_3 (t : Fin (cfgA hp).N) : (ms0_3 hp t).IsWhole := hstage0_3 (((cfgA hp).slots t (3 : Fin 6)).cast nbuf0_3)
abbrev ms0_4 (t : Fin (cfgA hp).N) : Memref sig .tc .vmem S1x256x2816 .fp8e4m3 := spec0_4.stage ((cfgA hp).slots t (4 : Fin 6))
abbrev hs0_4 (t : Fin (cfgA hp).N) : (ms0_4 hp t).IsWhole := hstage0_4 (((cfgA hp).slots t (4 : Fin 6)).cast nbuf0_4)
abbrev ms0_5 (t : Fin (cfgA hp).N) : Memref sig .tc .vmem S1x256x128 .f32 := spec0_5.stage ((cfgA hp).slots t (5 : Fin 6))
abbrev hs0_5 (t : Fin (cfgA hp).N) : (ms0_5 hp t).IsWhole := hstage0_5 (((cfgA hp).slots t (5 : Fin 6)).cast nbuf0_5)

/-- Window `w`'s block at point `t`, read off its array at the region's entry. -/
def iblk (c : Dev nD) (w : Fin (cfgA hp).W) (t : Fin (cfgA hp).N) : (((cfgA hp).win w).xblock (crd hp t)).Idx → Elt Bits ((cfgA hp).win w).elt :=
  (((cfgA hp).win w).blk t).view.read (Elt Bits) (V m c (Pipeline.arrRef spec0 w))

/-! ## What the outputs hold after each point -/

/-- What a used visit leaves in the two output blocks. -/
def visit4 (c : Dev nD) (t : Fin (cfgA hp).N) (h : t.val < used T) : S1x256x2816.Idx → Elt Bits .fp8e4m3 :=
  out0_A_4 c (crd hp t) (ms0_0 hp t) (hs0_0 hp t) (ms0_1 hp t) (hs0_1 hp t) (ms0_2 hp t) (hs0_2 hp t) (ms0_3 hp t) (hs0_3 hp t) (ms0_4 hp t) (hs0_4 hp t) (ms0_5 hp t) (hs0_5 hp t) T (iblk hp m c (0 : Fin 6) t) (iblk hp m c (1 : Fin 6) t) (iblk hp m c (2 : Fin 6) t) (iblk hp m c (3 : Fin 6) t) (hcond hp t h) (hchk hp (crd hp t))
def visit5 (c : Dev nD) (t : Fin (cfgA hp).N) (h : t.val < used T) : S1x256x128.Idx → Elt Bits .f32 :=
  out0_A_5 c (crd hp t) (ms0_0 hp t) (hs0_0 hp t) (ms0_1 hp t) (hs0_1 hp t) (ms0_2 hp t) (hs0_2 hp t) (ms0_3 hp t) (hs0_3 hp t) (ms0_4 hp t) (hs0_4 hp t) (ms0_5 hp t) (hs0_5 hp t) T (iblk hp m c (0 : Fin 6) t) (iblk hp m c (1 : Fin 6) t) (iblk hp m c (2 : Fin 6) t) (iblk hp m c (3 : Fin 6) t) (hcond hp t h) (hchk hp (crd hp t))

/-- One point of the trajectory: a used visit leaves its results, a later one what it found. -/
def step0 (c : Dev nD) (t : Fin (cfgA hp).N) (prev : (S1x256x2816.Idx → Elt Bits .fp8e4m3) × (S1x256x128.Idx → Elt Bits .f32)) : (S1x256x2816.Idx → Elt Bits .fp8e4m3) × (S1x256x128.Idx → Elt Bits .f32) :=
  if h : t.val < used T then (visit4 hp m c t h, visit5 hp m c t h) else prev

/-- The trajectory: after position `n`. -/
def traj0 (c : Dev nD) : (n : ℕ) → n < (cfgA hp).N → (S1x256x2816.Idx → Elt Bits .fp8e4m3) × (S1x256x128.Idx → Elt Bits .f32)
  | 0, h => step0 hp m c ⟨0, h⟩ (default, default)
  | n + 1, h => step0 hp m c ⟨n + 1, h⟩ (traj0 c n (Nat.lt_of_succ_lt h))

/-- What they held before point `t`. -/
def prev0 (c : Dev nD) (t : Fin (cfgA hp).N) : (S1x256x2816.Idx → Elt Bits .fp8e4m3) × (S1x256x128.Idx → Elt Bits .f32) :=
  if h : t.val = 0 then (default, default) else traj0 hp m c (t.val - 1) (by omega)

theorem traj0_eq (c : Dev nD) (t : Fin (cfgA hp).N) : traj0 hp m c t.val t.isLt = step0 hp m c t (prev0 hp m c t) := by
  obtain ⟨n, hn⟩ := t
  cases n with
  | zero => rfl
  | succ n => unfold prev0; simp only [Nat.add_one_ne_zero, dif_neg, not_false_eq_true]; rfl

theorem step0_A (c : Dev nD) (t : Fin (cfgA hp).N) (h : t.val < used T) (prev) :
    step0 hp m c t prev = (visit4 hp m c t h, visit5 hp m c t h) := dif_pos h
theorem step0_B (c : Dev nD) (t : Fin (cfgA hp).N) (h : ¬ t.val < used T) (prev) : step0 hp m c t prev = prev := dif_neg h

/-! ## The pipeline's proof data -/

/-- The invariant: the scratch at any contents, the body's half of the table. -/
def Phi (c : Dev nD) : sProp 𝕄 :=
  iprop(((∃ a, (scM0_0.view.loc (c : Thread nD τ) ↦{fullShare} a)) ∗ (tbM0_0.view.loc (c : Thread nD τ) ↦{fullShare.right} T)) ∗ (∃ r, prngReg c r))

/-- The proof data of the one pipeline on core `c`. -/
def dats (_ : Fin 1) (c : Dev nD) : Dat τ (Elt Bits) Unit ℕ (UR sig nD τ) ℕ (cfgA hp) c where
  A w := V m c (Pipeline.arrRef spec0 w)
  after w t := match w with
    | ⟨0, _⟩ => iblk hp m c (0 : Fin 6) t
    | ⟨1, _⟩ => iblk hp m c (1 : Fin 6) t
    | ⟨2, _⟩ => iblk hp m c (2 : Fin 6) t
    | ⟨3, _⟩ => iblk hp m c (3 : Fin 6) t
    | ⟨4, _⟩ => (traj0 hp m c t.val t.isLt).1
    | ⟨5, _⟩ => (traj0 hp m c t.val t.isLt).2
  Φ _ := Phi (T := T) c
  q _ := fullShare
  owed _ := 0

theorem after0_0 (c : Dev nD) (t : Fin (cfgA hp).N) : (dats hp m 0 c).after (0 : Fin 6) t = iblk hp m c (0 : Fin 6) t := rfl
theorem after0_1 (c : Dev nD) (t : Fin (cfgA hp).N) : (dats hp m 0 c).after (1 : Fin 6) t = iblk hp m c (1 : Fin 6) t := rfl
theorem after0_2 (c : Dev nD) (t : Fin (cfgA hp).N) : (dats hp m 0 c).after (2 : Fin 6) t = iblk hp m c (2 : Fin 6) t := rfl
theorem after0_3 (c : Dev nD) (t : Fin (cfgA hp).N) : (dats hp m 0 c).after (3 : Fin 6) t = iblk hp m c (3 : Fin 6) t := rfl
theorem after0_4 (c : Dev nD) (t : Fin (cfgA hp).N) : (dats hp m 0 c).after (4 : Fin 6) t = (traj0 hp m c t.val t.isLt).1 := rfl
theorem after0_5 (c : Dev nD) (t : Fin (cfgA hp).N) : (dats hp m 0 c).after (5 : Fin 6) t = (traj0 hp m c t.val t.isLt).2 := rfl

/-! ## What each window's staging buffer holds when the body runs -/

/-- Input window 0 holds its block, fetched there or not. -/
theorem before0_0 (c : Dev nD) (t : Fin (cfgA hp).N) (d) : (dats hp m 0 c).before (0 : Fin 6) t d = iblk hp m c (0 : Fin 6) t :=
  ((dats hp m 0 c).before_in_eq_fetched (0 : Fin 6) rfl (fun _ => rfl) (fun _ _ _ => rfl) (fun t => by rw [after0_0]; unfold Dat.blockOf iblk; rfl) t d).trans
    (by unfold Dat.fetched Dat.blockOf iblk; rfl)
/-- Input window 1 holds its block, fetched there or not. -/
theorem before0_1 (c : Dev nD) (t : Fin (cfgA hp).N) (d) : (dats hp m 0 c).before (1 : Fin 6) t d = iblk hp m c (1 : Fin 6) t :=
  ((dats hp m 0 c).before_in_eq_fetched (1 : Fin 6) rfl (fun _ => rfl) (fun _ _ _ => rfl) (fun t => by rw [after0_1]; unfold Dat.blockOf iblk; rfl) t d).trans
    (by unfold Dat.fetched Dat.blockOf iblk; rfl)
/-- Input window 2 holds its block, fetched there or not. -/
theorem before0_2 (c : Dev nD) (t : Fin (cfgA hp).N) (d) : (dats hp m 0 c).before (2 : Fin 6) t d = iblk hp m c (2 : Fin 6) t :=
  ((dats hp m 0 c).before_in_eq_fetched (2 : Fin 6) rfl (fun _ => rfl) (fun _ _ _ => rfl) (fun t => by rw [after0_2]; unfold Dat.blockOf iblk; rfl) t d).trans
    (by unfold Dat.fetched Dat.blockOf iblk; rfl)
/-- Input window 3 holds its block, fetched there or not. -/
theorem before0_3 (c : Dev nD) (t : Fin (cfgA hp).N) (d) : (dats hp m 0 c).before (3 : Fin 6) t d = iblk hp m c (3 : Fin 6) t :=
  ((dats hp m 0 c).before_in_eq_fetched (3 : Fin 6) rfl (fun _ => rfl) (fun _ _ _ => rfl) (fun t => by rw [after0_3]; unfold Dat.blockOf iblk; rfl) t d).trans
    (by unfold Dat.fetched Dat.blockOf iblk; rfl)
/-- Output 4's contents carry through the visits past the used ones. -/
theorem hcarry0_4 (c : Dev nD) : ∀ (t : Fin (cfgA hp).N) (ht : t.val ≠ 0), (cfgA hp).idle (4 : Fin 6) ((cfgA hp).grid.coords t) = true → (cfgA hp).fresh (4 : Fin 6) t.val = false →
    (dats hp m 0 c).after (4 : Fin 6) t = (dats hp m 0 c).after (4 : Fin 6) ⟨t.val - 1, by omega⟩ := by
  intro t ht hi hf
  rw [idle4_eq hp t] at hi
  have h : ¬ t.val < used T := Nat.not_lt.mpr (of_decide_eq_true hi)
  rw [after0_4, after0_4, traj0_eq, step0_B hp m c t h]
  unfold prev0; rw [dif_neg ht]

/-- Output 4's buffer holds at a visit past the used ones what the point before left. -/
theorem before0_4 (c : Dev nD) (t : Fin (cfgA hp).N) (h : ¬ t.val < used T) (d) :
    (dats hp m 0 c).before (4 : Fin 6) t d = (dats hp m 0 c).after (4 : Fin 6) t := by
  have hf := fresh4 hp t (Nat.not_lt.mp h)
  have h0 : t.val ≠ 0 := by have := used_pos hp; omega
  rw [(dats hp m 0 c).before_out_traj (4 : Fin 6) rfl (fun _ _ => rfl) (hcarry0_4 hp m c) t.val t rfl d, hf,
    if_neg Bool.false_ne_true]
  exact (hcarry0_4 hp m c t h0 (by rw [idle4_eq]; exact decide_eq_true (Nat.not_lt.mp h)) hf).symm

/-- Output 5's contents carry through the visits past the used ones. -/
theorem hcarry0_5 (c : Dev nD) : ∀ (t : Fin (cfgA hp).N) (ht : t.val ≠ 0), (cfgA hp).idle (5 : Fin 6) ((cfgA hp).grid.coords t) = true → (cfgA hp).fresh (5 : Fin 6) t.val = false →
    (dats hp m 0 c).after (5 : Fin 6) t = (dats hp m 0 c).after (5 : Fin 6) ⟨t.val - 1, by omega⟩ := by
  intro t ht hi hf
  rw [idle5_eq hp t] at hi
  have h : ¬ t.val < used T := Nat.not_lt.mpr (of_decide_eq_true hi)
  rw [after0_5, after0_5, traj0_eq, step0_B hp m c t h]
  unfold prev0; rw [dif_neg ht]

/-- Output 5's buffer holds at a visit past the used ones what the point before left. -/
theorem before0_5 (c : Dev nD) (t : Fin (cfgA hp).N) (h : ¬ t.val < used T) (d) :
    (dats hp m 0 c).before (5 : Fin 6) t d = (dats hp m 0 c).after (5 : Fin 6) t := by
  have hf := fresh5 hp t (Nat.not_lt.mp h)
  have h0 : t.val ≠ 0 := by have := used_pos hp; omega
  rw [(dats hp m 0 c).before_out_traj (5 : Fin 6) rfl (fun _ _ => rfl) (hcarry0_5 hp m c) t.val t rfl d, hf,
    if_neg Bool.false_ne_true]
  exact (hcarry0_5 hp m c t h0 (by rw [idle5_eq]; exact decide_eq_true (Nat.not_lt.mp h)) hf).symm

/-! ## The body obligation -/

/-- The body at point `t` on its staging memrefs, as the pipeline calls it. -/
abbrev bodyAt0 (t : Fin (cfgA hp).N) : Prog (TpuEff nD τ sig (Elt Bits) Λ₀ .tc) PUnit :=
  cc0_up (crd hp t) (Memref.whole main_arg0) (Memref.isWhole_whole _) (ms0_0 hp t) (hs0_0 hp t) (ms0_1 hp t) (hs0_1 hp t) (ms0_2 hp t) (hs0_2 hp t) (ms0_3 hp t) (hs0_3 hp t) (ms0_4 hp t) (hs0_4 hp t) (ms0_5 hp t) (hs0_5 hp t) (Memref.whole cc0_scratch0) (Memref.isWhole_whole _)

set_option maxHeartbeats 4000000 in
/-- At a used visit the body, run on its blocks, leaves the visit's results. -/
theorem sound_A (c : Dev nD) (t : Fin (cfgA hp).N) (h : t.val < used T) :
      iprop((dats hp m 0 c).Φ t.castSucc ∗ (dats hp m 0 c).owesAt () t.castSucc
        ∗ (∃ d, owns (c : Thread nD τ) (ms0_0 hp t) fullShare ((dats hp m 0 c).before (0 : Fin 6) t d))
        ∗ (∃ d, owns (c : Thread nD τ) (ms0_1 hp t) fullShare ((dats hp m 0 c).before (1 : Fin 6) t d))
        ∗ (∃ d, owns (c : Thread nD τ) (ms0_2 hp t) fullShare ((dats hp m 0 c).before (2 : Fin 6) t d))
        ∗ (∃ d, owns (c : Thread nD τ) (ms0_3 hp t) fullShare ((dats hp m 0 c).before (3 : Fin 6) t d))
        ∗ (∃ d, owns (c : Thread nD τ) (ms0_4 hp t) fullShare ((dats hp m 0 c).before (4 : Fin 6) t d))
        ∗ (∃ d, owns (c : Thread nD τ) (ms0_5 hp t) fullShare ((dats hp m 0 c).before (5 : Fin 6) t d)))
      ⊢ wp frame (wpE (defs₀ (F := Bits)) Variants.none c none) Set.univ (bodyAt0 hp t) fun _ =>
          iprop((dats hp m 0 c).Φ t.succ ∗ (dats hp m 0 c).owesAt () t.succ
            ∗ bigSep Finset.univ fun w : Fin (cfgA hp).W =>
                match (cfgA hp).idle w ((cfgA hp).grid.coords t) with
                | true =>
                  match ((cfgA hp).win w).flush t with
                  | false => iprop(∃ d, owns (c : Thread nD τ) (((cfgA hp).win w).stage ((cfgA hp).slots t w)) fullShare ((dats hp m 0 c).before w t d))
                  | true => owns (c : Thread nD τ) (((cfgA hp).win w).stage ((cfgA hp).slots t w)) fullShare ((dats hp m 0 c).after w t)
                | false => owns (c : Thread nD τ) (((cfgA hp).win w).stage ((cfgA hp).slots t w)) fullShare ((dats hp m 0 c).after w t)) := by
  rw [bigSep_W0]
  have i4 := (idle4_eq hp t).trans (decide_eq_false (Nat.not_le.mpr h))
  have i5 := (idle5_eq hp t).trans (decide_eq_false (Nat.not_le.mpr h))
  rewrite [i4]
  simp only [before0_0, before0_1, before0_2, before0_3, after0_0, after0_1, after0_2, after0_3, after0_4, after0_5]
  rewrite [show (dats hp m 0 c).Φ t.succ = Phi (T := T) c from rfl, show (dats hp m 0 c).Φ t.castSucc = Phi (T := T) c from rfl,
    show (dats hp m 0 c).owesAt () t.succ = (dats hp m 0 c).owesAt () t.castSucc from rfl]
  rewrite [traj0_eq, step0_A hp m c t h _]
  unfold Phi visit4 visit5
  iintro ⟨⟨⟨HS0, HT0⟩, Hr⟩, Ho, ⟨%d0, H0⟩, ⟨%d1, H1⟩, ⟨%d2, H2⟩, ⟨%d3, H3⟩, ⟨%d4, H4⟩, ⟨%d5, H5⟩⟩
  iapply (body_A c (crd hp t) (ms0_0 hp t) (hs0_0 hp t) (ms0_1 hp t) (hs0_1 hp t) (ms0_2 hp t) (hs0_2 hp t) (ms0_3 hp t) (hs0_3 hp t) (ms0_4 hp t) (hs0_4 hp t) (ms0_5 hp t) (hs0_5 hp t) T (iblk hp m c (0 : Fin 6) t) (iblk hp m c (1 : Fin 6) t) (iblk hp m c (2 : Fin 6) t) (iblk hp m c (3 : Fin 6) t) (hcond hp t h) (hchk hp (crd hp t)) _)
  isplitl [H0]; · iexact H0
  isplitl [H1]; · iexact H1
  isplitl [H2]; · iexact H2
  isplitl [H3]; · iexact H3
  isplitl [HT0]; · iexact HT0
  isplitl [H4]; · iexists _; iexact H4
  isplitl [H5]; · iexists _; iexact H5
  isplitl [HS0]; · iexact HS0
  iintro ⟨H0, H1, H2, H3, HT0, H4, H5, HS0⟩
  isplitl [HS0 HT0 Hr]
  · isplitl [HS0 HT0]
    · isplitl [HS0]
      · iexact HS0
      iexact HT0
    iexact Hr
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- At a visit past the used ones the body touches nothing. -/
theorem sound_B (c : Dev nD) (t : Fin (cfgA hp).N) (h : ¬ t.val < used T) :
      iprop((dats hp m 0 c).Φ t.castSucc ∗ (dats hp m 0 c).owesAt () t.castSucc
        ∗ (∃ d, owns (c : Thread nD τ) (ms0_0 hp t) fullShare ((dats hp m 0 c).before (0 : Fin 6) t d))
        ∗ (∃ d, owns (c : Thread nD τ) (ms0_1 hp t) fullShare ((dats hp m 0 c).before (1 : Fin 6) t d))
        ∗ (∃ d, owns (c : Thread nD τ) (ms0_2 hp t) fullShare ((dats hp m 0 c).before (2 : Fin 6) t d))
        ∗ (∃ d, owns (c : Thread nD τ) (ms0_3 hp t) fullShare ((dats hp m 0 c).before (3 : Fin 6) t d))
        ∗ (∃ d, owns (c : Thread nD τ) (ms0_4 hp t) fullShare ((dats hp m 0 c).before (4 : Fin 6) t d))
        ∗ (∃ d, owns (c : Thread nD τ) (ms0_5 hp t) fullShare ((dats hp m 0 c).before (5 : Fin 6) t d)))
      ⊢ wp frame (wpE (defs₀ (F := Bits)) Variants.none c none) Set.univ (bodyAt0 hp t) fun _ =>
          iprop((dats hp m 0 c).Φ t.succ ∗ (dats hp m 0 c).owesAt () t.succ
            ∗ bigSep Finset.univ fun w : Fin (cfgA hp).W =>
                match (cfgA hp).idle w ((cfgA hp).grid.coords t) with
                | true =>
                  match ((cfgA hp).win w).flush t with
                  | false => iprop(∃ d, owns (c : Thread nD τ) (((cfgA hp).win w).stage ((cfgA hp).slots t w)) fullShare ((dats hp m 0 c).before w t d))
                  | true => owns (c : Thread nD τ) (((cfgA hp).win w).stage ((cfgA hp).slots t w)) fullShare ((dats hp m 0 c).after w t)
                | false => owns (c : Thread nD τ) (((cfgA hp).win w).stage ((cfgA hp).slots t w)) fullShare ((dats hp m 0 c).after w t)) := by
  rw [bigSep_W0]
  have i4 := (idle4_eq hp t).trans (decide_eq_true (Nat.not_lt.mp h))
  have i5 := (idle5_eq hp t).trans (decide_eq_true (Nat.not_lt.mp h))
  rewrite [i4]
  simp only [before0_0, before0_1, before0_2, before0_3, before0_4 hp m c t h, before0_5 hp m c t h, after0_0, after0_1, after0_2, after0_3]
  rewrite [show (dats hp m 0 c).Φ t.succ = Phi (T := T) c from rfl, show (dats hp m 0 c).Φ t.castSucc = Phi (T := T) c from rfl,
    show (dats hp m 0 c).owesAt () t.succ = (dats hp m 0 c).owesAt () t.castSucc from rfl]
  unfold Phi
  iintro ⟨⟨⟨⟨%a0, HS0⟩, HT0⟩, Hr⟩, Ho, ⟨%d0, H0⟩, ⟨%d1, H1⟩, ⟨%d2, H2⟩, ⟨%d3, H3⟩, ⟨%d4, H4⟩, ⟨%d5, H5⟩⟩
  iapply (kernelRun0_B c (crd hp t) (ms0_0 hp t) (hs0_0 hp t) (ms0_1 hp t) (hs0_1 hp t) (ms0_2 hp t) (hs0_2 hp t) (ms0_3 hp t) (hs0_3 hp t) (ms0_4 hp t) (hs0_4 hp t) (ms0_5 hp t) (hs0_5 hp t) T (hncond hp t h) _)
  isplitl [HT0]; · iexact HT0
  iintro HT0
  isplitl [HS0 HT0 Hr]
  · isplitl [HS0 HT0]
    · isplitl [HS0]
      · iexists _; iexact HS0
      iexact HT0
    iexact Hr
  isplitl [Ho]; · iexact Ho
  isplitl [H0]; · iexact H0
  isplitl [H1]; · iexact H1
  isplitl [H2]; · iexact H2
  isplitl [H3]; · iexact H3
  isplitl [H4]
  · cases ((cfgA hp).win (4 : Fin 6)).flush t
    · simp only; iexists d4; iexact H4
    · simp only; iexact H4
  cases ((cfgA hp).win (5 : Fin 6)).flush t
  · simp only; iexists d5; iexact H5
  · simp only; iexact H5

/-- The library's body obligation, at every point. -/
theorem body_obligation (c : Dev nD) : BodyObligation (dats hp m 0 c) (defs₀ (F := Bits)) Variants.none () Set.univ := fun t => by
  rw [bigSep_W0]
  by_cases h : t.val < used T
  · exact sound_A hp m c t h
  · exact sound_B hp m c t h

/-! ## The launch -/

theorem share_eq (c : Dev nD) (w : Fin (cfgA hp).W) : (dats hp m 0 c).share w = fullShare := by unfold Dat.share; split <;> rfl

/-- The table as the launch hands it to the region. -/
theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- The invariant at the first point. -/
theorem phi0_intro (c : Dev nD) :
    iprop(Pipeline.ΦA spec0 c ∗ Pipeline.ΦT pre0 (adm hp).1 c) ⊢ (dats hp m 0 c).Φ 0 := by
  unfold Pipeline.ΦA Pipeline.ΦT
  rw [prefHeld_eq, scopedRest0_eq, show (dats hp m 0 c).Φ 0 = Phi (T := T) c from rfl]
  unfold Phi
  iintro ⟨⟨⟨%a0, HS0⟩, Hr⟩, HT0⟩
  isplitl [HS0 HT0]
  · isplitl [HS0]
    · iexists a0; iexact HS0
    iexact HT0
  iexact Hr

/-- At the last point the invariant gives the scratch and the register back. -/
theorem phiN_exit (c : Dev nD) : (dats hp m 0 c).Φ (Fin.last (cfgA hp).N) ⊢ (Pipeline.ΦA spec0 c : sProp 𝕄) := by
  unfold Pipeline.ΦA
  rw [scopedRest0_eq, show (dats hp m 0 c).Φ (Fin.last (cfgA hp).N) = Phi (T := T) c from rfl]
  unfold Phi
  iintro ⟨⟨⟨%a0, HS0⟩, -⟩, Hr⟩
  isplitl [HS0]
  · iexists a0; iexact HS0
  iexact Hr

variable (ρ : Dev nD → PrngReg) (hm : ∀ c : Dev nD, m ((c : Thread nD τ).loc main_arg0) = T)
include hm

theorem V_pre (c : Dev nD) (j : Fin 1) : V0 m c (Proc.devRef .tc (pre0.ref j)) = (adm hp).1 j := by
  fin_cases j
  exact (V_main_arg0 m c).trans (hm c)

/-- The buffers after the host lines that follow the region. -/
abbrev Vend (c : Dev nD) (b : Ref sig .tc) : Buf (Elt Bits) ((c : Thread nD τ).loc b) :=
  Pipeline.afterTail (pcfgs (F := Bits)) (fun _ => adm hp) (dats hp m) 0 (V0 m) sfx c b

set_option backward.isDefEq.respectTransparency.types false in
set_option maxHeartbeats 4000000 in
/-- Every weakly fair execution of @main terminates; at the end the arrays hold what the proof data says, the other buffers
    what the later host lines leave, and every semaphore counter reads zero. -/
theorem run_main : θ_run (defs (F := Bits)) (onTc (τ := τ) (main (F := Bits))) (s₀ m ρ)
    (fun r => Pipeline.FramePost (pcs hp) (dats hp m) 0 (Vend hp m) r ∧ r.2.sem = fun _ => 0) :=
  Pipeline.θ_run_frameP_around_track (Q' := _) (pcfgs (F := Bits)) (fun _ => adm hp) (dats hp m) (0 : Fin 1) (launch0 (F := Bits)) defs₀ Variants.none m ρ main
    (hbody := fun c => (body_obligation hp m c).loose) (hshare := fun c w => share_eq hp m c w)
    (howed := fun _ _ => rfl) (V₀ := V0 m) (opss := sfx) (hsub := sfx_sub) (hfresh := sfx_fresh) (hkeep := sfx_keeps)
    (hmain := hmain m Variants.none) (hA := fun _ _ => rfl) (hpf := V_pre hp m hm)
    (hin := phi0_intro hp m) (hout := phiN_exit hp m) (hQ' := fun _ h => h)

end Cert.Kernel.Up

end
-- ==== Proof.BitsEnd.lean ====
/- The kernel program's last state: its arguments as they were, every semaphore counter at zero. -/
module

public import proofs.«01_k».proof.Proof.BitsFrame

@[expose] public section

set_option maxRecDepth 16384

noncomputable section

namespace Cert.Kernel.Up

open Cert.Kernel Cert.Kernel.Gen Cert.Up
open Idealize.ShloMosaic
open Idealize.ShloMosaic.TcCoe
open Idealize.SL.Sem

variable {T : S576.Idx → BitVec 32} (hp : Plan (word T))
variable (m : (ℓ : Loc nD τ sig) → Buf (Elt Bits) ℓ)

/-- No host line and no output of the region writes the table. -/
theorem Vend_table (c : Dev nD) : Vend hp m c main_arg0 = m ((c : Thread nD τ).loc main_arg0) := by
  unfold Vend Pipeline.afterTail
  rw [StableHlo.after_of_forall_not_mem (b := Proc.devRef .tc main_arg0) _ _ (List.forall_iff_forall_mem.mp (by
      simp only [sfx, hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

variable (ρ : Dev nD → PrngReg) (hm : ∀ c : Dev nD, m ((c : Thread nD τ).loc main_arg0) = T)
include hp hm

/-- The arguments are unchanged and every semaphore counter reads zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).2 main_arg0 (Pipeline.mem_restRefs_of main_arg0 (by decide) (by exact (by decide : ∀ w, Pipeline.arrRef spec0 w ≠ main_arg0))) |>.trans (Vend_table hp m c),
      ((h.1 c).1 (0 : Fin 6)).trans (((dats hp m 0 c).arrAt_in (0 : Fin 6) rfl _).trans (V_main_arg1 m c)),
      ((h.1 c).1 (1 : Fin 6)).trans (((dats hp m 0 c).arrAt_in (1 : Fin 6) rfl _).trans (V_main_arg2 m c)),
      ((h.1 c).1 (2 : Fin 6)).trans (((dats hp m 0 c).arrAt_in (2 : Fin 6) rfl _).trans (V_main_arg3 m c)),
      ((h.1 c).1 (3 : Fin 6)).trans (((dats hp m 0 c).arrAt_in (3 : Fin 6) rfl _).trans (V_main_arg4 m c))⟩, h.2⟩) (run_main hp m ρ hm)

end Cert.Kernel.Up

end
-- ==== Proof.IdealRun.lean ====
/- The kernel body run once on symbolic staging memrefs and a symbolic table: a visit the plan uses (path A: both output
   blocks and the scratch are written) and a visit past the plan's end (path B: nothing is touched). -/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Up

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the program logic at this instance. -/
local notation "𝕄" => MT nD τ sig Unit (Elt Ideal) ℕ (UR sig nD τ) ℕ

/-- The table and the scratch the kernel is handed, whole, at their literal types. -/
abbrev tbM0_0 : Memref sig .tc .smem S576 .i32 := Memref.whole main_arg0
abbrev scM0_0 : Memref sig .tc .vmem S256x2816 .f32 := Memref.whole cc0_scratch0

/-! ## The kernel body per control path -/

/-- One staging buffer of output window 4, through which its contents are stated (`View.read_writes_of_cover`). -/
abbrev VO0_4 : View sig .tc .vmem S1x256x2816 .fp8e4m3 := (Memref.whole cc0_stg4_0 : Memref sig .tc .vmem S1x256x2816 .fp8e4m3).view
/-- One staging buffer of output window 5, through which its contents are stated (`View.read_writes_of_cover`). -/
abbrev VO0_5 : View sig .tc .vmem S1x256x128 .f32 := (Memref.whole cc0_stg5_0 : Memref sig .tc .vmem S1x256x128 .f32).view

set_option backward.proofsInPublic true in
set_option maxHeartbeats 8000000 in
/-- PATH A (a visit in use): what the body leaves in each output block and in the scratch, together with the proof that
    from the inputs at their blocks, the table and any contents of the outputs and the scratch, the body runs to the
    continuation holding exactly that. -/
noncomputable def kernelRun0_A (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Ideal .i32))
     (x0 : (S256x2816.Idx → Elt Ideal .fp8e4m3)) (x1 : (S256x384.Idx → Elt Ideal .f32)) (x2 : (S1x2816x5632.Idx → Elt Ideal .fp8e4m3)) (x3 : (S4x5632.Idx → Elt Ideal .f32)) (k0_h1 : k0_cond1 i (View.readAt (Elt Ideal) (tbM0_0).view (Rect.unit (s := S576) ![0] S1.size inb_S576_S1_0).toLoadRect T0 (Shape.Idx.first (numel1_S1.symm ▸ Nat.one_pos))) = 1#1) (k0_hw1 : k0_chk1 i (View.readAt (Elt Ideal) (tbM0_0).view (Rect.unit (s := S576) ![0] S1.size inb_S576_S1_0).toLoadRect T0 (Shape.Idx.first (numel1_S1.symm ▸ Nat.one_pos))) (View.readAt (Elt Ideal) (tbM0_0).view (Rect.unit (s := S576) (k0_off2 i) S1.size (k0_off2_inb i)).toLoadRect T0 (Shape.Idx.first (numel1_S1.symm ▸ Nat.one_pos)))) :
    Σ' (out0 : List (View.Piece (Elt Ideal) S1x256x2816 .fp8e4m3)) (out1 : List (View.Piece (Elt Ideal) S1x256x128 .f32)), { out2 : Buf (Elt Ideal) ((c : Thread nD τ).loc cc0_scratch0) //
      ∀ (xa0 : Buf (Elt Ideal) ((c : Thread nD τ).loc cc0_scratch0)) (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (tbM0_0.view.loc (c : Thread nD τ) ↦{fullShare.right} T0)
          ∗ (∃ d, owns (c : Thread nD τ) arg6 fullShare d)
          ∗ (∃ d, owns (c : Thread nD τ) arg7 fullShare d)
          ∗ (scM0_0.view.loc (c : Thread nD τ) ↦{fullShare} xa0)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (tbM0_0.view.loc (c : Thread nD τ) ↦{fullShare.right} T0)
              ∗ (∃ f, arg6.view.loc (c : Thread nD τ) ↦[arg6.view.set]{fullShare} arg6.view.writes (Elt Ideal) f out0)
              ∗ (∃ f, arg7.view.loc (c : Thread nD τ) ↦[arg7.view.set]{fullShare} arg7.view.writes (Elt Ideal) f out1)
              ∗ (scM0_0.view.loc (c : Thread nD τ) ↦{fullShare} out2)) -∗ K ⟨⟩))
          ⊢ wp frame (wpE (defs₀ (F := Ideal)) Variants.none c none) Set.univ (cc0_up i tbM0_0 (Memref.isWhole_whole _) arg2 harg2 arg3 harg3 arg4 harg4 arg5 harg5 arg6 harg6 arg7 harg7 scM0_0 (Memref.isWhole_whole _)) K } :=
  ⟨_, _, _, fun (xa0 : Buf (Elt Ideal) ((c : Thread nD τ).loc cc0_scratch0)) K => by
    unfold owns
    rw [cc0_up_eq_skeleton]; unfold cc0_up_skel
    iintro ⟨H0, H1, H2, H3, HT0, ⟨%d4, %f4, -, HO4⟩, ⟨%d5, %f5, -, HO5⟩, HS0, Hk⟩
    have hS0 : scM0_0.IsWhole := Memref.isWhole_whole _
    have hT0 : tbM0_0.IsWhole := Memref.isWhole_whole _
    sl_exec! (disch := first | (guard_target = k0_cond1 _ _ = _; exact k0_h1) | (guard_target = k0_chk1 _ _ _; exact k0_hw1))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    isplitl [HO5]; · iexists _; iexact HO5
    iexact HS0⟩

/-- Path A's pieces for output 4 tile its block (1 store of `S1x256x2816`: the kernel evaluates the tiling, Lib/Ring.lean `Piece.tiledL`). -/
theorem cover0_A_4 (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Ideal .i32))
     (x0 : (S256x2816.Idx → Elt Ideal .fp8e4m3)) (x1 : (S256x384.Idx → Elt Ideal .f32)) (x2 : (S1x2816x5632.Idx → Elt Ideal .fp8e4m3)) (x3 : (S4x5632.Idx → Elt Ideal .f32)) (k0_h1 : k0_cond1 i (View.readAt (Elt Ideal) (tbM0_0).view (Rect.unit (s := S576) ![0] S1.size inb_S576_S1_0).toLoadRect T0 (Shape.Idx.first (numel1_S1.symm ▸ Nat.one_pos))) = 1#1) (k0_hw1 : k0_chk1 i (View.readAt (Elt Ideal) (tbM0_0).view (Rect.unit (s := S576) ![0] S1.size inb_S576_S1_0).toLoadRect T0 (Shape.Idx.first (numel1_S1.symm ▸ Nat.one_pos))) (View.readAt (Elt Ideal) (tbM0_0).view (Rect.unit (s := S576) (k0_off2 i) S1.size (k0_off2_inb i)).toLoadRect T0 (Shape.Idx.first (numel1_S1.symm ▸ Nat.one_pos)))) (y : S1x256x2816.Idx) :
    ∃ pc ∈ (kernelRun0_A c i arg2 harg2 arg3 harg3 arg4 harg4 arg5 harg5 arg6 harg6 arg7 harg7 T0 x0 x1 x2 x3 k0_h1 k0_hw1).1, y ∈ pc.1.set :=
  View.cover_of_tiledL (kernelRun0_A c i arg2 harg2 arg3 harg3 arg4 harg4 arg5 harg5 arg6 harg6 arg7 harg7 T0 x0 x1 x2 x3 k0_h1 k0_hw1).1 S1x256x2816.size (by sl_kernel_rfl) y

/-- What path A leaves in output 4's staging buffer: its pieces read back over junk. -/
def out0_A_4 (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Ideal .i32))
     (x0 : (S256x2816.Idx → Elt Ideal .fp8e4m3)) (x1 : (S256x384.Idx → Elt Ideal .f32)) (x2 : (S1x2816x5632.Idx → Elt Ideal .fp8e4m3)) (x3 : (S4x5632.Idx → Elt Ideal .f32)) (k0_h1 : k0_cond1 i (View.readAt (Elt Ideal) (tbM0_0).view (Rect.unit (s := S576) ![0] S1.size inb_S576_S1_0).toLoadRect T0 (Shape.Idx.first (numel1_S1.symm ▸ Nat.one_pos))) = 1#1) (k0_hw1 : k0_chk1 i (View.readAt (Elt Ideal) (tbM0_0).view (Rect.unit (s := S576) ![0] S1.size inb_S576_S1_0).toLoadRect T0 (Shape.Idx.first (numel1_S1.symm ▸ Nat.one_pos))) (View.readAt (Elt Ideal) (tbM0_0).view (Rect.unit (s := S576) (k0_off2 i) S1.size (k0_off2_inb i)).toLoadRect T0 (Shape.Idx.first (numel1_S1.symm ▸ Nat.one_pos)))) : (S1x256x2816.Idx → Elt Ideal .fp8e4m3) :=
  VO0_4.read (Elt Ideal) (VO0_4.writes (Elt Ideal) VO0_4.junk (kernelRun0_A c i arg2 harg2 arg3 harg3 arg4 harg4 arg5 harg5 arg6 harg6 arg7 harg7 T0 x0 x1 x2 x3 k0_h1 k0_hw1).1)

/-- Path A's pieces for output 5 tile its block (1 store of `S1x256x128`: the kernel evaluates the tiling, Lib/Ring.lean `Piece.tiledL`). -/
theorem cover0_A_5 (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Ideal .i32))
     (x0 : (S256x2816.Idx → Elt Ideal .fp8e4m3)) (x1 : (S256x384.Idx → Elt Ideal .f32)) (x2 : (S1x2816x5632.Idx → Elt Ideal .fp8e4m3)) (x3 : (S4x5632.Idx → Elt Ideal .f32)) (k0_h1 : k0_cond1 i (View.readAt (Elt Ideal) (tbM0_0).view (Rect.unit (s := S576) ![0] S1.size inb_S576_S1_0).toLoadRect T0 (Shape.Idx.first (numel1_S1.symm ▸ Nat.one_pos))) = 1#1) (k0_hw1 : k0_chk1 i (View.readAt (Elt Ideal) (tbM0_0).view (Rect.unit (s := S576) ![0] S1.size inb_S576_S1_0).toLoadRect T0 (Shape.Idx.first (numel1_S1.symm ▸ Nat.one_pos))) (View.readAt (Elt Ideal) (tbM0_0).view (Rect.unit (s := S576) (k0_off2 i) S1.size (k0_off2_inb i)).toLoadRect T0 (Shape.Idx.first (numel1_S1.symm ▸ Nat.one_pos)))) (y : S1x256x128.Idx) :
    ∃ pc ∈ (kernelRun0_A c i arg2 harg2 arg3 harg3 arg4 harg4 arg5 harg5 arg6 harg6 arg7 harg7 T0 x0 x1 x2 x3 k0_h1 k0_hw1).2.1, y ∈ pc.1.set :=
  View.cover_of_tiledL (kernelRun0_A c i arg2 harg2 arg3 harg3 arg4 harg4 arg5 harg5 arg6 harg6 arg7 harg7 T0 x0 x1 x2 x3 k0_h1 k0_hw1).2.1 S1x256x128.size (by sl_kernel_rfl) y

/-- What path A leaves in output 5's staging buffer: its pieces read back over junk. -/
def out0_A_5 (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Ideal .i32))
     (x0 : (S256x2816.Idx → Elt Ideal .fp8e4m3)) (x1 : (S256x384.Idx → Elt Ideal .f32)) (x2 : (S1x2816x5632.Idx → Elt Ideal .fp8e4m3)) (x3 : (S4x5632.Idx → Elt Ideal .f32)) (k0_h1 : k0_cond1 i (View.readAt (Elt Ideal) (tbM0_0).view (Rect.unit (s := S576) ![0] S1.size inb_S576_S1_0).toLoadRect T0 (Shape.Idx.first (numel1_S1.symm ▸ Nat.one_pos))) = 1#1) (k0_hw1 : k0_chk1 i (View.readAt (Elt Ideal) (tbM0_0).view (Rect.unit (s := S576) ![0] S1.size inb_S576_S1_0).toLoadRect T0 (Shape.Idx.first (numel1_S1.symm ▸ Nat.one_pos))) (View.readAt (Elt Ideal) (tbM0_0).view (Rect.unit (s := S576) (k0_off2 i) S1.size (k0_off2_inb i)).toLoadRect T0 (Shape.Idx.first (numel1_S1.symm ▸ Nat.one_pos)))) : (S1x256x128.Idx → Elt Ideal .f32) :=
  VO0_5.read (Elt Ideal) (VO0_5.writes (Elt Ideal) VO0_5.junk (kernelRun0_A c i arg2 harg2 arg3 harg3 arg4 harg4 arg5 harg5 arg6 harg6 arg7 harg7 T0 x0 x1 x2 x3 k0_h1 k0_hw1).2.1)

set_option backward.proofsInPublic true in
/-- PATH B (a visit past the plan's end): the body reads the count and does nothing else. -/
theorem kernelRun0_B (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Ideal .i32))
    (k0_h1 : ¬ k0_cond1 i (View.readAt (Elt Ideal) (tbM0_0).view (Rect.unit (s := S576) ![0] S1.size inb_S576_S1_0).toLoadRect T0 (Shape.Idx.first (numel1_S1.symm ▸ Nat.one_pos))) = 1#1) (K : PUnit → sProp 𝕄) :
    iprop((tbM0_0.view.loc (c : Thread nD τ) ↦{fullShare.right} T0)
        ∗ ((tbM0_0.view.loc (c : Thread nD τ) ↦{fullShare.right} T0) -∗ K ⟨⟩))
      ⊢ wp frame (wpE (defs₀ (F := Ideal)) Variants.none c none) Set.univ (cc0_up i tbM0_0 (Memref.isWhole_whole _) arg2 harg2 arg3 harg3 arg4 harg4 arg5 harg5 arg6 harg6 arg7 harg7 scM0_0 (Memref.isWhole_whole _)) K := by
  rw [cc0_up_eq_skeleton]; unfold cc0_up_skel
  iintro ⟨HT0, Hk⟩
  have hT0 : tbM0_0.IsWhole := Memref.isWhole_whole _
  sl_exec! (disch := first | (guard_target = ¬ k0_cond1 _ _ = _; exact k0_h1))
  sl_step
  iapply Hk
  iexact HT0

end Cert.KernelIdeal.Up

end
-- ==== Proof.IdealWords.lean ====
/- The words the kernel and its index maps read from the plan table, the bounds they give, and the pipeline at that
   table. -/
module

public import proofs.«01_k».proof.Proof.Plan
public import proofs.«01_k».proof.Proof.IdealRun

@[expose] public section

set_option maxRecDepth 16384

noncomputable section

namespace Cert.KernelIdeal.Up

open Cert.KernelIdeal Cert.KernelIdeal.Gen Cert.Up
open Idealize.ShloMosaic
open Idealize.ShloMosaic.TcCoe Idealize.ShloMosaic.Tactic
open Idealize.ShloMosaic.Pipeline (Dat Cfg Window)

/-! ## Numbers -/

/-- The number of a table position `k + v` computed in 32-bit words. -/
theorem toNat_off (k v : ℕ) (hk : k < 500) (hv : v < 74) :
    (Scalar.indexCast (Scalar.addi (BitVec.ofNat 32 k) (BitVec.ofNat 32 v)) : Index).toNat = k + v := by
  show (BitVec.ofNat 32 k + BitVec.ofNat 32 v).toNat = k + v
  rw [BitVec.toNat_add, BitVec.toNat_ofNat, BitVec.toNat_ofNat]
  omega

/-- A point's number is its one coordinate, -/
theorem crd_val : ∀ t : Fin grid0.N, (grid0.coords t 0).val = t.val := by decide +kernel

/-- below 74. -/
theorem crd_lt (i : grid0.Coords) : (i 0).val < 74 := (i 0).isLt

variable (T : S576.Idx → BitVec 32)

/-- The table as the contents of the one prefetched buffer. -/
def pfN : pre0.Contents (Elt Ideal) := fun
  | ⟨0, _⟩ => T
  | ⟨_ + 1, h⟩ => absurd h (by simp)

/-- What an index map reads at offset `k`. -/
theorem pf_at (off : Fin 1 → ℕ) (h : ∀ a, off a + S1.size a ≤ S576.size a) (k : ℕ) (hk : off 0 = k) :
    (pfN T).at 0 (Rect.unit (s := S576) off S1.size h) numel1_S1 = word T k := by
  subst hk
  exact (word_val T _).trans (congrArg (word T) (by show off 0 + 1 * 0 = off 0; omega))

/-- What the body reads at offset `k`. -/
theorem body_read (off : Fin 1 → ℕ) (h : ∀ a, off a + S1.size a ≤ S576.size a) (k : ℕ) (hk : off 0 = k) :
    View.readAt (Elt Ideal) (tbM0_0).view (Rect.unit (s := S576) off S1.size h).toLoadRect T
      (Shape.Idx.first (numel1_S1.symm ▸ Nat.one_pos)) = word T k := by
  subst hk
  exact (word_val T _).trans (congrArg (word T) (by show off 0 + 1 * 0 = off 0; omega))

/-- The table's first word, as the outputs' idleness test reads it. -/
theorem pf_atD : (pfN T).atD 0 ![0] = word T 0 := by
  have h : ∀ a : Fin 1, (![0] : Fin 1 → ℕ) a + 1 ≤ S576.size a := by decide
  exact (dif_pos h).trans (word_val T _)

/-- The idleness test of the outputs, at the table. -/
theorem idle_word (i : grid0.Coords) : idle0 (pfN T) (4 : Fin 6) i = !(k0_cond1 i (word T 0) == 1#1) :=
  congrArg (fun w : BitVec 32 => !(k0_cond1 i w == 1#1)) (pf_atD T)

/-- The body's branch is taken at visit `v` exactly if `v < 2 n`. -/
theorem cond_iff (i : grid0.Coords) (w : BitVec 32) (hw : w.toNat ≤ 37) :
    k0_cond1 i w = 1#1 ↔ (i 0).val < 2 * w.toNat := by
  have hi := crd_lt i
  have e1 : (BitVec.ofNat 32 (i 0).val).toInt = ((i 0).val : ℤ) := by
    rw [BitVec.toInt_eq_toNat_of_lt (by rw [BitVec.toNat_ofNat]; omega), BitVec.toNat_ofNat]
    omega
  have e2 : ((2#32 : BitVec 32) * w).toInt = (2 * w.toNat : ℤ) := by
    have h : ((2#32 : BitVec 32) * w).toNat = 2 * w.toNat := by
      rw [BitVec.toNat_mul]; simp; omega
    rw [BitVec.toInt_eq_toNat_of_lt (by rw [h]; omega), h]
    push_cast; rfl
  have key : (BitVec.ofNat 32 (i 0).val).slt ((2#32 : BitVec 32) * w) = decide ((i 0).val < 2 * w.toNat) := by
    unfold BitVec.slt
    rw [e1, e2]
    exact decide_eq_decide.mpr (by omega)
  show Scalar.cmpi .ne (Scalar.extui (BitVec.ofBool ((BitVec.ofNat 32 (i 0).val).slt ((2#32 : BitVec 32) * w)))) 0#32 = 1#1 ↔ _
  rw [key]
  by_cases hlt : (i 0).val < 2 * w.toNat
  · simp only [hlt, decide_true, iff_true]; decide
  · simp only [hlt, decide_false, iff_false]; decide

/-! ## The index maps -/

theorem k1_off (i : grid0.Coords) (k : ℕ) (hk : k < 500) :
    k0_off1 i (BitVec.ofNat 32 k) 0 = k + (i 0).val := toNat_off k _ hk (crd_lt i)
theorem k2_off (i : grid0.Coords) : k0_off2 i 0 = 320 + (i 0).val := toNat_off 320 _ (by decide) (crd_lt i)

theorem tr0_eq (i : grid0.Coords) : cc0_transform_0 k0_off1_inb numel1_S1 (pfN T) i = ![(word T (192 + (i 0).val)).toNat, 0] := by
  have h := pf_at T (k0_off1 i (BitVec.ofNat 32 192)) (k0_off1_inb i 0) _ (k1_off i 192 (by decide))
  unfold cc0_transform_0
  exact congrArg (fun w : BitVec 32 => ![w.toNat, 0]) h
theorem tr1_eq (i : grid0.Coords) : cc0_transform_1 k0_off1_inb numel1_S1 (pfN T) i = ![(word T (192 + (i 0).val)).toNat, 0] := by
  have h := pf_at T (k0_off1 i (BitVec.ofNat 32 192)) (k0_off1_inb i 0) _ (k1_off i 192 (by decide))
  unfold cc0_transform_1
  exact congrArg (fun w : BitVec 32 => ![w.toNat, 0]) h
theorem tr2_eq (i : grid0.Coords) : cc0_transform_2 k0_off1_inb numel1_S1 (pfN T) i = ![(word T (320 + (i 0).val)).toNat, 0, 0] := by
  have h := pf_at T (k0_off1 i (BitVec.ofNat 32 320)) (k0_off1_inb i 1) _ (k1_off i 320 (by decide))
  unfold cc0_transform_2
  exact congrArg (fun w : BitVec 32 => ![w.toNat, 0, 0]) h
theorem tr4_eq (i : grid0.Coords) : cc0_transform_4 k0_off1_inb numel1_S1 (pfN T) i
    = ![(word T (448 + (i 0).val)).toNat, (word T (192 + (i 0).val)).toNat, 0] := by
  have h := pf_at T (k0_off1 i (BitVec.ofNat 32 192)) (k0_off1_inb i 0) _ (k1_off i 192 (by decide))
  have h' := pf_at T (k0_off1 i (BitVec.ofNat 32 448)) (k0_off1_inb i 2) _ (k1_off i 448 (by decide))
  unfold cc0_transform_4
  exact congrArg₂ (fun w w' : BitVec 32 => ![w'.toNat, w.toNat, 0]) h h'
theorem tr5_eq (i : grid0.Coords) : cc0_transform_5 k0_off1_inb numel1_S1 (pfN T) i
    = ![(word T (448 + (i 0).val)).toNat, (word T (192 + (i 0).val)).toNat, 0] := by
  have h := pf_at T (k0_off1 i (BitVec.ofNat 32 192)) (k0_off1_inb i 0) _ (k1_off i 192 (by decide))
  have h' := pf_at T (k0_off1 i (BitVec.ofNat 32 448)) (k0_off1_inb i 2) _ (k1_off i 448 (by decide))
  unfold cc0_transform_5
  exact congrArg₂ (fun w w' : BitVec 32 => ![w'.toNat, w.toNat, 0]) h h'

/-! ## The bounds -/

variable {T} (hp : Plan (word T))
include hp

/-- Every block a visit names lies inside its array. -/
theorem ok_pfN : ok0 (F := Ideal) (pfN T) := by
  refine ⟨fun i => ⟨?_, .inr (Affine.block_words_dvd (s := S9472x2816) (p := EltTy.packing .fp8e4m3) (by decide) (by decide))⟩,
    fun i => ⟨?_, .inl rfl⟩,
    fun i => ⟨?_, .inr (Affine.block_words_dvd (s := S4x2816x5632) (p := EltTy.packing .fp8e4m3) (by decide) (by decide))⟩,
    fun i => ⟨?_, .inr (Affine.block_words_dvd (s := S2x9472x2816) (p := EltTy.packing .fp8e4m3) (by decide) (by decide))⟩,
    fun i => ⟨?_, .inl rfl⟩⟩
  all_goals
    have h1 := hp.tile_lt _ (crd_lt i)
    have h2 := hp.expert_lt _ (crd_lt i)
    have h3 := hp.slot_lt _ (crd_lt i)
    intro a
  · rw [tr0_eq]; fin_cases a
    · show ((word T (192 + (i 0).val)).toNat + 1) * 256 ≤ 9472; omega
    · show (0 + 1) * 2816 ≤ 2816; omega
  · rw [tr1_eq]; fin_cases a
    · show ((word T (192 + (i 0).val)).toNat + 1) * 256 ≤ 9472; omega
    · show (0 + 1) * 384 ≤ 384; omega
  · rw [tr2_eq]; fin_cases a
    · show ((word T (320 + (i 0).val)).toNat + 1) * 1 ≤ 4; omega
    · show (0 + 1) * 2816 ≤ 2816; omega
    · show (0 + 1) * 5632 ≤ 5632; omega
  · rw [tr4_eq]; fin_cases a
    · show ((word T (448 + (i 0).val)).toNat + 1) * 1 ≤ 2; omega
    · show ((word T (192 + (i 0).val)).toNat + 1) * 256 ≤ 9472; omega
    · show (0 + 1) * 2816 ≤ 2816; omega
  · rw [tr5_eq]; fin_cases a
    · show ((word T (448 + (i 0).val)).toNat + 1) * 1 ≤ 2; omega
    · show ((word T (192 + (i 0).val)).toNat + 1) * 256 ≤ 9472; omega
    · show (0 + 1) * 128 ≤ 128; omega

omit hp in
/-- Every row of the scale array an expert below four names lies inside it. -/
theorem chk_of (i : grid0.Coords) (v0 v7 : BitVec 32) (h : v7.toNat < 4) : k0_chk1 i v0 v7 := by
  unfold k0_chk1
  repeat' apply And.intro
  all_goals
    intro _ a
    fin_cases a
    · show v7.toNat + 1 ≤ 4; omega
    · exact Nat.le_of_ble_eq_true rfl

/-- The pipeline at the table. -/
def adm : (pcfg0 (F := Ideal)).Adm := ⟨pfN T, ok_pfN hp⟩
abbrev cfgA : Pipeline.Cfg sig Λ₀ := cfg0 (F := Ideal) (adm hp)
abbrev pcs : Fin 1 → Pipeline.Cfg sig Λ₀ := Pipeline.pin (pcfgs (F := Ideal)) fun _ => adm hp

/-- The number of used visits. -/
abbrev used (T : S576.Idx → BitVec 32) : ℕ := 2 * (word T 0).toNat

theorem used_pos : 2 ≤ used T := by have := hp.count; unfold used; omega
theorem used_le : used T ≤ 74 := by have := hp.count; unfold used; omega

/-! ## The schedule of the two outputs -/

theorem idle4_eq (t : Fin (cfgA hp).N) : (cfgA hp).idle (4 : Fin 6) ((cfgA hp).grid.coords t) = decide (used T ≤ t.val) := by
  refine (idle_word T (grid0.coords t)).trans ?_
  have h := cond_iff (grid0.coords t) (word T 0) hp.count.2
  rw [crd_val t] at h
  by_cases hc : k0_cond1 (grid0.coords t) (word T 0) = 1#1
  · have := h.mp hc
    rw [hc]; symm; simpa using this
  · have h2 : ¬ t.val < 2 * (word T 0).toNat := fun h' => hc (h.mpr h')
    have h3 : (k0_cond1 (grid0.coords t) (word T 0) == 1#1) = false := by simpa using hc
    rw [h3, decide_eq_true (show used T ≤ t.val from Nat.not_lt.mp h2)]; rfl
theorem idle5_eq (t : Fin (cfgA hp).N) : (cfgA hp).idle (5 : Fin 6) ((cfgA hp).grid.coords t) = decide (used T ≤ t.val) := idle4_eq hp t

theorem index4_eq (t : Fin (cfgA hp).N) : ((cfgA hp).win (4 : Fin 6)).index t
    = ![(word T (448 + t.val)).toNat, (word T (192 + t.val)).toNat, 0] := by
  have h := tr4_eq T (grid0.coords t)
  rw [crd_val t] at h
  exact h
theorem index5_eq (t : Fin (cfgA hp).N) : ((cfgA hp).win (5 : Fin 6)).index t
    = ![(word T (448 + t.val)).toNat, (word T (192 + t.val)).toNat, 0] := by
  have h := tr5_eq T (grid0.coords t)
  rw [crd_val t] at h
  exact h

/-- An output whose block is the visit's (slot, tile) is not written back between a visit and a repetition of it. -/
theorem flush_tail (w : Fin 6) (hi : ∀ t : Fin (cfgA hp).N, ∀ t' : Fin (cfgA hp).N, t'.val = t.val + 1 → used T ≤ t'.val → ((cfgA hp).win w).index t' = ((cfgA hp).win w).index t)
    (t : Fin (cfgA hp).N) (h : t.val + 1 < 74) (hu : used T ≤ t.val + 1) : ((cfgA hp).win w).flush t = false := by
  unfold Window.flush
  have hN : (cfgA hp).N = 74 := N_0
  have h1 : ¬ (t.val + 1 = (cfgA hp).N) := by omega
  have h2 : ¬ ∃ h : t.val + 1 < (cfgA hp).grid.N, ((cfgA hp).win w).index ⟨t.val + 1, h⟩ ≠ ((cfgA hp).win w).index t :=
    fun ⟨h', h2⟩ => h2 (hi t ⟨t.val + 1, h'⟩ rfl hu)
  rw [decide_eq_false h1, decide_eq_false h2, Bool.false_or, Bool.and_false]

theorem tail4 (t t' : Fin (cfgA hp).N) (e : t'.val = t.val + 1) (hu : used T ≤ t'.val) :
    ((cfgA hp).win (4 : Fin 6)).index t' = ((cfgA hp).win (4 : Fin 6)).index t := by
  have hN : (cfgA hp).N = 74 := N_0
  have ht := t'.isLt
  obtain ⟨h1, -, h3⟩ := hp.tail t.val (by omega) (by unfold used at hu; omega)
  rw [index4_eq, index4_eq, e, h1, h3]
theorem tail5 (t t' : Fin (cfgA hp).N) (e : t'.val = t.val + 1) (hu : used T ≤ t'.val) :
    ((cfgA hp).win (5 : Fin 6)).index t' = ((cfgA hp).win (5 : Fin 6)).index t := by
  rw [index5_eq, index5_eq, ← index4_eq, ← index4_eq]; exact tail4 hp t t' e hu

/-- At a visit past the used ones an output's buffer still holds what the last used visit left. -/
theorem fresh_idle (w : Fin 6) (hi : ∀ t : Fin (cfgA hp).N, ∀ t' : Fin (cfgA hp).N, t'.val = t.val + 1 → used T ≤ t'.val → ((cfgA hp).win w).index t' = ((cfgA hp).win w).index t)
    (hid : ∀ t : Fin (cfgA hp).N, (cfgA hp).idle w ((cfgA hp).grid.coords t) = decide (used T ≤ t.val)) :
    ∀ n, used T ≤ n → n < 74 → (cfgA hp).fresh w n = false
  | 0, h, _ => by have := used_pos hp; omega
  | n + 1, h, hn => by
    have hN : (cfgA hp).N = 74 := N_0
    rw [Pipeline.Cfg.fresh_succ (cfgA hp) w n (by omega), hid,
      flush_tail hp w hi ⟨n, by omega⟩ hn h, Bool.false_or]
    by_cases hu : used T ≤ n
    · rw [fresh_idle w hi hid n hu (by omega), Bool.and_false]
    · simp [hu]

theorem fresh4 (t : Fin (cfgA hp).N) (h : used T ≤ t.val) : (cfgA hp).fresh (4 : Fin 6) t.val = false :=
  fresh_idle hp 4 (tail4 hp) (idle4_eq hp) t.val h (by have := t.isLt; have hN : (cfgA hp).N = 74 := N_0; omega)
theorem fresh5 (t : Fin (cfgA hp).N) (h : used T ≤ t.val) : (cfgA hp).fresh (5 : Fin 6) t.val = false :=
  fresh_idle hp 5 (tail5 hp) (idle5_eq hp) t.val h (by have := t.isLt; have hN : (cfgA hp).N = 74 := N_0; omega)

/-! ## The body's decision at a point -/

theorem word0_read : View.readAt (Elt Ideal) (tbM0_0).view (Rect.unit (s := S576) ![0] S1.size inb_S576_S1_0).toLoadRect T
      (Shape.Idx.first (numel1_S1.symm ▸ Nat.one_pos)) = word T 0 := body_read T _ _ 0 rfl

theorem hcond (t : Fin (cfgA hp).N) (h : t.val < used T) :
    k0_cond1 ((cfgA hp).grid.coords t) (View.readAt (Elt Ideal) (tbM0_0).view (Rect.unit (s := S576) ![0] S1.size inb_S576_S1_0).toLoadRect T (Shape.Idx.first (numel1_S1.symm ▸ Nat.one_pos))) = 1#1 := by
  rw [word0_read hp]
  exact (cond_iff (grid0.coords t) (word T 0) hp.count.2).mpr (by rw [crd_val t]; exact h)
theorem hncond (t : Fin (cfgA hp).N) (h : ¬ t.val < used T) :
    ¬ k0_cond1 ((cfgA hp).grid.coords t) (View.readAt (Elt Ideal) (tbM0_0).view (Rect.unit (s := S576) ![0] S1.size inb_S576_S1_0).toLoadRect T (Shape.Idx.first (numel1_S1.symm ▸ Nat.one_pos))) = 1#1 := by
  rw [word0_read hp]
  exact fun hc => h (by have := (cond_iff (grid0.coords t) (word T 0) hp.count.2).mp hc; rwa [crd_val t] at this)
theorem hchk (i : grid0.Coords) :
    k0_chk1 i (View.readAt (Elt Ideal) (tbM0_0).view (Rect.unit (s := S576) ![0] S1.size inb_S576_S1_0).toLoadRect T (Shape.Idx.first (numel1_S1.symm ▸ Nat.one_pos))) (View.readAt (Elt Ideal) (tbM0_0).view (Rect.unit (s := S576) (k0_off2 i) S1.size (k0_off2_inb i)).toLoadRect T (Shape.Idx.first (numel1_S1.symm ▸ Nat.one_pos))) := by
  apply chk_of
  rw [body_read T _ _ _ (k2_off i)]
  exact hp.expert_lt _ (crd_lt i)

end Cert.KernelIdeal.Up

end
-- ==== Proof.IdealBody.lean ====
/- The run of a used visit, restated with the buffers named by what they hold. -/
module

public import proofs.«01_k».proof.Proof.IdealRun
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Up

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the program logic at this instance. -/
local notation "𝕄" => MT nD τ sig Unit (Elt Ideal) ℕ (UR sig nD τ) ℕ

set_option maxHeartbeats 4000000 in
/-- A used visit's run, with the buffers named by what they hold: from the inputs' blocks, the table, and any contents of the
    outputs and the scratch, to the same inputs and the two outputs at their results. -/
theorem body_A (c : Dev nD) (i : grid0.Coords) (arg2 : Memref sig .tc .vmem S256x2816 .fp8e4m3) (harg2 : arg2.IsWhole) (arg3 : Memref sig .tc .vmem S256x384 .f32) (harg3 : arg3.IsWhole) (arg4 : Memref sig .tc .vmem S1x2816x5632 .fp8e4m3) (harg4 : arg4.IsWhole) (arg5 : Memref sig .tc .vmem S4x5632 .f32) (harg5 : arg5.IsWhole) (arg6 : Memref sig .tc .vmem S1x256x2816 .fp8e4m3) (harg6 : arg6.IsWhole) (arg7 : Memref sig .tc .vmem S1x256x128 .f32) (harg7 : arg7.IsWhole) (T0 : (S576.Idx → Elt Ideal .i32))
     (x0 : (S256x2816.Idx → Elt Ideal .fp8e4m3)) (x1 : (S256x384.Idx → Elt Ideal .f32)) (x2 : (S1x2816x5632.Idx → Elt Ideal .fp8e4m3)) (x3 : (S4x5632.Idx → Elt Ideal .f32)) (k0_h1 : k0_cond1 i (View.readAt (Elt Ideal) (tbM0_0).view (Rect.unit (s := S576) ![0] S1.size inb_S576_S1_0).toLoadRect T0 (Shape.Idx.first (numel1_S1.symm ▸ Nat.one_pos))) = 1#1) (k0_hw1 : k0_chk1 i (View.readAt (Elt Ideal) (tbM0_0).view (Rect.unit (s := S576) ![0] S1.size inb_S576_S1_0).toLoadRect T0 (Shape.Idx.first (numel1_S1.symm ▸ Nat.one_pos))) (View.readAt (Elt Ideal) (tbM0_0).view (Rect.unit (s := S576) (k0_off2 i) S1.size (k0_off2_inb i)).toLoadRect T0 (Shape.Idx.first (numel1_S1.symm ▸ Nat.one_pos)))) (K : PUnit → sProp 𝕄) :
    iprop(owns (c : Thread nD τ) arg2 fullShare x0
          ∗ owns (c : Thread nD τ) arg3 fullShare x1
          ∗ owns (c : Thread nD τ) arg4 fullShare x2
          ∗ owns (c : Thread nD τ) arg5 fullShare x3
          ∗ (tbM0_0.view.loc (c : Thread nD τ) ↦{fullShare.right} T0)
          ∗ (∃ d, owns (c : Thread nD τ) arg6 fullShare d)
          ∗ (∃ d, owns (c : Thread nD τ) arg7 fullShare d)
          ∗ (∃ a, scM0_0.view.loc (c : Thread nD τ) ↦{fullShare} a)
          ∗ (iprop(owns (c : Thread nD τ) arg2 fullShare x0
          ∗ owns (c : Thread nD τ) arg3 fullShare x1
          ∗ owns (c : Thread nD τ) arg4 fullShare x2
          ∗ owns (c : Thread nD τ) arg5 fullShare x3
              ∗ (tbM0_0.view.loc (c : Thread nD τ) ↦{fullShare.right} T0)
              ∗ owns (c : Thread nD τ) arg6 fullShare (out0_A_4 c i arg2 harg2 arg3 harg3 arg4 harg4 arg5 harg5 arg6 harg6 arg7 harg7 T0 x0 x1 x2 x3 k0_h1 k0_hw1)
              ∗ owns (c : Thread nD τ) arg7 fullShare (out0_A_5 c i arg2 harg2 arg3 harg3 arg4 harg4 arg5 harg5 arg6 harg6 arg7 harg7 T0 x0 x1 x2 x3 k0_h1 k0_hw1)
              ∗ (∃ a, scM0_0.view.loc (c : Thread nD τ) ↦{fullShare} a)) -∗ K ⟨⟩))
      ⊢ wp frame (wpE (defs₀ (F := Ideal)) Variants.none c none) Set.univ (cc0_up i tbM0_0 (Memref.isWhole_whole _) arg2 harg2 arg3 harg3 arg4 harg4 arg5 harg5 arg6 harg6 arg7 harg7 scM0_0 (Memref.isWhole_whole _)) K := by
  iintro ⟨H0, H1, H2, H3, HT0, H4, H5, ⟨%a0, HS0⟩, HK⟩
  iapply ((kernelRun0_A c i arg2 harg2 arg3 harg3 arg4 harg4 arg5 harg5 arg6 harg6 arg7 harg7 T0 x0 x1 x2 x3 k0_h1 k0_hw1).2.2.2 a0 K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [H4]; · iexact H4
  isplitl [H5]; · iexact H5
  isplitl [HS0]; · iexact HS0
  iintro ⟨H0, H1, H2, H3, HT0, ⟨%e4, H4⟩, ⟨%e5, H5⟩, HS0⟩
  iapply HK
  isplitl [H0]; · iapply owns_of_rep; iexact H0
  isplitl [H1]; · iapply owns_of_rep; iexact H1
  isplitl [H2]; · iapply owns_of_rep; iexact H2
  isplitl [H3]; · iapply owns_of_rep; iexact H3
  isplitl [HT0]; · iexact HT0
  isplitl [H4]
  · unfold owns; iexists _; isplitr; swap
    · iexact H4
    · ipureintro; exact View.read_writes_of_cover _ _ _ _ _ (cover0_A_4 c _ _ _ _ _ _ _ _ _ _ _ _ _ _ _ _ _ _ _ _)
  isplitl [H5]
  · unfold owns; iexists _; isplitr; swap
    · iexact H5
    · ipureintro; exact View.read_writes_of_cover _ _ _ _ _ (cover0_A_5 c _ _ _ _ _ _ _ _ _ _ _ _ _ _ _ _ _ _ _ _)
  iexists _; iexact HS0

end Cert.KernelIdeal.Up

end
-- ==== Proof.IdealFrame.lean ====
/- The kernel program runs: at any plan table the precondition admits, the pipeline's proof data, the body's obligation at
   every visit, the launch, and the final state. -/
module

public import proofs.«01_k».proof.Proof.IdealWords
public import proofs.«01_k».proof.Proof.IdealBody
public import Idealize.ShloMosaic.Lib.Pipeline.FrameSuffix
public import Idealize.ShloMosaic.Lib.Pipeline.Quiescent
public import Idealize.ShloMosaic.Lib.Claim

@[expose] public section

set_option maxRecDepth 16384

noncomputable section

namespace Cert.KernelIdeal.Up

open Cert.KernelIdeal Cert.KernelIdeal.Gen Cert.Up
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the program logic at this instance. -/
local notation "𝕄" => MT nD τ sig Unit (Elt Ideal) ℕ (UR sig nD τ) ℕ

variable {T : S576.Idx → BitVec 32} (hp : Plan (word T))
variable (m : (ℓ : Loc nD τ sig) → Buf (Elt Ideal) ℓ)

/-! ## The memory the region finds -/

/-- Core `c`'s buffers when the region is entered: after the host lines before it. -/
abbrev V0 (c : Dev nD) : Valuation τ sig (Elt Ideal) := StableHlo.after (List.flatten [hostOps0]) (fun b => m (c, b))
/-- The same read at a reference. -/
abbrev V (c : Dev nD) (b : Ref sig .tc) : Buf (Elt Ideal) ((c : Thread nD τ).loc b) := V0 m c (Proc.devRef .tc b)

/-- The host lines after the region. -/
abbrev sfx : List (List (HloOp τ sig (Elt Ideal))) := [hostOps1, hostOps1_1, hostOps1_2, hostOps1_3]

/-- No host line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_v12_0`. -/
theorem V_main_v12_0 (c : Dev nD) : V m c main_v12_0 = m ((c : Thread nD τ).loc main_v12_0) :=
  StableHlo.after_of_forall_not_mem (b := Proc.devRef .tc main_v12_0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_v12_1`. -/
theorem V_main_v12_1 (c : Dev nD) : V m c main_v12_1 = m ((c : Thread nD τ).loc main_v12_1) :=
  StableHlo.after_of_forall_not_mem (b := Proc.devRef .tc main_v12_1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hostOps0_fresh : (hostOps0 : List (HloOp τ sig (Elt Ideal))).Forall fun op => op.fresh = ∅ := by
  simp only [List.Forall]; repeat' constructor
theorem hostOps1_fresh : (hostOps1 : List (HloOp τ sig (Elt Ideal))).Forall fun op => op.fresh = ∅ := by
  simp only [List.Forall]; repeat' constructor
theorem hostOps1_1_fresh : (hostOps1_1 : List (HloOp τ sig (Elt Ideal))).Forall fun op => op.fresh = ∅ := by
  simp only [List.Forall]; repeat' constructor
theorem hostOps1_2_fresh : (hostOps1_2 : List (HloOp τ sig (Elt Ideal))).Forall fun op => op.fresh = ∅ := by
  simp only [List.Forall]; repeat' constructor
theorem hostOps1_3_fresh : (hostOps1_3 : List (HloOp τ sig (Elt Ideal))).Forall fun op => op.fresh = ∅ := by
  simp only [List.Forall]; repeat' constructor

/-- @main around the region. -/
theorem hmain (𝒱₀ : Variants) : Pipeline.HMainPK (Ix := Unit) (Name := ℕ) (U := UR sig nD τ) (Lvl := ℕ) (pcfgs (F := Ideal)) 0 defs₀ 𝒱₀ m (main (F := Ideal))
      (fun c b => V0 m c (Proc.devRef .tc b)) (fun _ => Pipeline.chain (sfx.map StableHlo.seq)) :=
  Pipeline.hmainP_around (pcfgs (F := Ideal)) 0 defs₀ 𝒱₀ m main [hostOps0] sfx (by simp only [List.Forall]; exact hostOps0_sub)
    (by simp only [List.Forall]; exact hostOps0_fresh) main_chain

/-- A host line after the region does not touch the table, -/
theorem sfx_table : ∀ ops ∈ sfx, ∀ op ∈ ops, ∀ k : Fin 1, Proc.devRef .tc (pre0.ref k) ∉ op.bufs := by
  intro ops hops op hop k
  have hk : pre0.ref k = main_arg0 := by fin_cases k; rfl
  rw [hk]
  simp only [sfx, List.mem_cons, List.mem_nil_iff, or_false] at hops
  rcases hops with rfl | rfl | rfl | rfl
  all_goals
    simp only [hostOps1, hostOps1_1, hostOps1_2, hostOps1_3, List.mem_cons, List.mem_nil_iff, or_false] at hop
    rcases hop with rfl | rfl | rfl
    all_goals decide +kernel

/-- touches only arrays of the pipeline and buffers that bypass it, -/
theorem sfx_sub : ∀ ops ∈ sfx, ∀ op ∈ ops, op.bufs ⊆ Pipeline.tailRefs sig pre0 spec0 := by
  intro ops hops op hop
  refine Pipeline.sub_tailRefs pre0 spec0 op ?_ (sfx_table ops hops op hop)
  simp only [sfx, List.mem_cons, List.mem_nil_iff, or_false] at hops
  rcases hops with rfl | rfl | rfl | rfl
  · exact (List.forall_iff_forall_mem.mp hostOps1_sub) op hop
  · exact (List.forall_iff_forall_mem.mp hostOps1_1_sub) op hop
  · exact (List.forall_iff_forall_mem.mp hostOps1_2_sub) op hop
  · exact (List.forall_iff_forall_mem.mp hostOps1_3_sub) op hop
/-- allocates nothing, -/
theorem sfx_fresh : ∀ ops ∈ sfx, ∀ op ∈ ops, op.fresh = ∅ := by
  intro ops hops op hop
  simp only [sfx, List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
/-- and writes no array of the pipeline. -/
theorem sfx_keeps : ∀ ops ∈ sfx, ∀ op ∈ ops, ∀ w, Proc.devRef .tc (Pipeline.arrRef spec0 w) ∉ op.writes := by
  intro ops hops op hop
  simp only [sfx, List.mem_cons, List.mem_nil_iff, or_false] at hops
  rcases hops with rfl | rfl | rfl | rfl
  all_goals
    simp only [hostOps1, hostOps1_1, hostOps1_2, hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## A point's coordinates, staging memrefs and blocks -/

/-- Point `t`'s coordinates. -/
abbrev crd (t : Fin (cfgA hp).N) : (cfgA hp).grid.Coords := (cfgA hp).grid.coords t

abbrev ms0_0 (t : Fin (cfgA hp).N) : Memref sig .tc .vmem S256x2816 .fp8e4m3 := spec0_0.stage ((cfgA hp).slots t (0 : Fin 6))
abbrev hs0_0 (t : Fin (cfgA hp).N) : (ms0_0 hp t).IsWhole := hstage0_0 (((cfgA hp).slots t (0 : Fin 6)).cast nbuf0_0)
abbrev ms0_1 (t : Fin (cfgA hp).N) : Memref sig .tc .vmem S256x384 .f32 := spec0_1.stage ((cfgA hp).slots t (1 : Fin 6))
abbrev hs0_1 (t : Fin (cfgA hp).N) : (ms0_1 hp t).IsWhole := hstage0_1 (((cfgA hp).slots t (1 : Fin 6)).cast nbuf0_1)
abbrev ms0_2 (t : Fin (cfgA hp).N) : Memref sig .tc .vmem S1x2816x5632 .fp8e4m3 := spec0_2.stage ((cfgA hp).slots t (2 : Fin 6))
abbrev hs0_2 (t : Fin (cfgA hp).N) : (ms0_2 hp t).IsWhole := hstage0_2 (((cfgA hp).slots t (2 : Fin 6)).cast nbuf0_2)
abbrev ms0_3 (t : Fin (cfgA hp).N) : Memref sig .tc .vmem S4x5632 .f32 := spec0_3.stage ((cfgA hp).slots t (3 : Fin 6))
abbrev hs0_3 (t : Fin (cfgA hp).N) : (ms0_3 hp t).IsWhole := hstage0_3 (((cfgA hp).slots t (3 : Fin 6)).cast nbuf0_3)
abbrev ms0_4 (t : Fin (cfgA hp).N) : Memref sig .tc .vmem S1x256x2816 .fp8e4m3 := spec0_4.stage ((cfgA hp).slots t (4 : Fin 6))
abbrev hs0_4 (t : Fin (cfgA hp).N) : (ms0_4 hp t).IsWhole := hstage0_4 (((cfgA hp).slots t (4 : Fin 6)).cast nbuf0_4)
abbrev ms0_5 (t : Fin (cfgA hp).N) : Memref sig .tc .vmem S1x256x128 .f32 := spec0_5.stage ((cfgA hp).slots t (5 : Fin 6))
abbrev hs0_5 (t : Fin (cfgA hp).N) : (ms0_5 hp t).IsWhole := hstage0_5 (((cfgA hp).slots t (5 : Fin 6)).cast nbuf0_5)

/-- Window `w`'s block at point `t`, read off its array at the region's entry. -/
def iblk (c : Dev nD) (w : Fin (cfgA hp).W) (t : Fin (cfgA hp).N) : (((cfgA hp).win w).xblock (crd hp t)).Idx → Elt Ideal ((cfgA hp).win w).elt :=
  (((cfgA hp).win w).blk t).view.read (Elt Ideal) (V m c (Pipeline.arrRef spec0 w))

/-! ## What the outputs hold after each point -/

/-- What a used visit leaves in the two output blocks. -/
def visit4 (c : Dev nD) (t : Fin (cfgA hp).N) (h : t.val < used T) : S1x256x2816.Idx → Elt Ideal .fp8e4m3 :=
  out0_A_4 c (crd hp t) (ms0_0 hp t) (hs0_0 hp t) (ms0_1 hp t) (hs0_1 hp t) (ms0_2 hp t) (hs0_2 hp t) (ms0_3 hp t) (hs0_3 hp t) (ms0_4 hp t) (hs0_4 hp t) (ms0_5 hp t) (hs0_5 hp t) T (iblk hp m c (0 : Fin 6) t) (iblk hp m c (1 : Fin 6) t) (iblk hp m c (2 : Fin 6) t) (iblk hp m c (3 : Fin 6) t) (hcond hp t h) (hchk hp (crd hp t))
def visit5 (c : Dev nD) (t : Fin (cfgA hp).N) (h : t.val < used T) : S1x256x128.Idx → Elt Ideal .f32 :=
  out0_A_5 c (crd hp t) (ms0_0 hp t) (hs0_0 hp t) (ms0_1 hp t) (hs0_1 hp t) (ms0_2 hp t) (hs0_2 hp t) (ms0_3 hp t) (hs0_3 hp t) (ms0_4 hp t) (hs0_4 hp t) (ms0_5 hp t) (hs0_5 hp t) T (iblk hp m c (0 : Fin 6) t) (iblk hp m c (1 : Fin 6) t) (iblk hp m c (2 : Fin 6) t) (iblk hp m c (3 : Fin 6) t) (hcond hp t h) (hchk hp (crd hp t))

/-- One point of the trajectory: a used visit leaves its results, a later one what it found. -/
def step0 (c : Dev nD) (t : Fin (cfgA hp).N) (prev : (S1x256x2816.Idx → Elt Ideal .fp8e4m3) × (S1x256x128.Idx → Elt Ideal .f32)) : (S1x256x2816.Idx → Elt Ideal .fp8e4m3) × (S1x256x128.Idx → Elt Ideal .f32) :=
  if h : t.val < used T then (visit4 hp m c t h, visit5 hp m c t h) else prev

/-- The trajectory: after position `n`. -/
def traj0 (c : Dev nD) : (n : ℕ) → n < (cfgA hp).N → (S1x256x2816.Idx → Elt Ideal .fp8e4m3) × (S1x256x128.Idx → Elt Ideal .f32)
  | 0, h => step0 hp m c ⟨0, h⟩ (default, default)
  | n + 1, h => step0 hp m c ⟨n + 1, h⟩ (traj0 c n (Nat.lt_of_succ_lt h))

/-- What they held before point `t`. -/
def prev0 (c : Dev nD) (t : Fin (cfgA hp).N) : (S1x256x2816.Idx → Elt Ideal .fp8e4m3) × (S1x256x128.Idx → Elt Ideal .f32) :=
  if h : t.val = 0 then (default, default) else traj0 hp m c (t.val - 1) (by omega)

theorem traj0_eq (c : Dev nD) (t : Fin (cfgA hp).N) : traj0 hp m c t.val t.isLt = step0 hp m c t (prev0 hp m c t) := by
  obtain ⟨n, hn⟩ := t
  cases n with
  | zero => rfl
  | succ n => unfold prev0; simp only [Nat.add_one_ne_zero, dif_neg, not_false_eq_true]; rfl

theorem step0_A (c : Dev nD) (t : Fin (cfgA hp).N) (h : t.val < used T) (prev) :
    step0 hp m c t prev = (visit4 hp m c t h, visit5 hp m c t h) := dif_pos h
theorem step0_B (c : Dev nD) (t : Fin (cfgA hp).N) (h : ¬ t.val < used T) (prev) : step0 hp m c t prev = prev := dif_neg h

/-! ## The pipeline's proof data -/

/-- The invariant: the scratch at any contents, the body's half of the table. -/
def Phi (c : Dev nD) : sProp 𝕄 :=
  iprop(((∃ a, (scM0_0.view.loc (c : Thread nD τ) ↦{fullShare} a)) ∗ (tbM0_0.view.loc (c : Thread nD τ) ↦{fullShare.right} T)) ∗ (∃ r, prngReg c r))

/-- The proof data of the one pipeline on core `c`. -/
def dats (_ : Fin 1) (c : Dev nD) : Dat τ (Elt Ideal) Unit ℕ (UR sig nD τ) ℕ (cfgA hp) c where
  A w := V m c (Pipeline.arrRef spec0 w)
  after w t := match w with
    | ⟨0, _⟩ => iblk hp m c (0 : Fin 6) t
    | ⟨1, _⟩ => iblk hp m c (1 : Fin 6) t
    | ⟨2, _⟩ => iblk hp m c (2 : Fin 6) t
    | ⟨3, _⟩ => iblk hp m c (3 : Fin 6) t
    | ⟨4, _⟩ => (traj0 hp m c t.val t.isLt).1
    | ⟨5, _⟩ => (traj0 hp m c t.val t.isLt).2
  Φ _ := Phi (T := T) c
  q _ := fullShare
  owed _ := 0

theorem after0_0 (c : Dev nD) (t : Fin (cfgA hp).N) : (dats hp m 0 c).after (0 : Fin 6) t = iblk hp m c (0 : Fin 6) t := rfl
theorem after0_1 (c : Dev nD) (t : Fin (cfgA hp).N) : (dats hp m 0 c).after (1 : Fin 6) t = iblk hp m c (1 : Fin 6) t := rfl
theorem after0_2 (c : Dev nD) (t : Fin (cfgA hp).N) : (dats hp m 0 c).after (2 : Fin 6) t = iblk hp m c (2 : Fin 6) t := rfl
theorem after0_3 (c : Dev nD) (t : Fin (cfgA hp).N) : (dats hp m 0 c).after (3 : Fin 6) t = iblk hp m c (3 : Fin 6) t := rfl
theorem after0_4 (c : Dev nD) (t : Fin (cfgA hp).N) : (dats hp m 0 c).after (4 : Fin 6) t = (traj0 hp m c t.val t.isLt).1 := rfl
theorem after0_5 (c : Dev nD) (t : Fin (cfgA hp).N) : (dats hp m 0 c).after (5 : Fin 6) t = (traj0 hp m c t.val t.isLt).2 := rfl

/-! ## What each window's staging buffer holds when the body runs -/

/-- Input window 0 holds its block, fetched there or not. -/
theorem before0_0 (c : Dev nD) (t : Fin (cfgA hp).N) (d) : (dats hp m 0 c).before (0 : Fin 6) t d = iblk hp m c (0 : Fin 6) t :=
  ((dats hp m 0 c).before_in_eq_fetched (0 : Fin 6) rfl (fun _ => rfl) (fun _ _ _ => rfl) (fun t => by rw [after0_0]; unfold Dat.blockOf iblk; rfl) t d).trans
    (by unfold Dat.fetched Dat.blockOf iblk; rfl)
/-- Input window 1 holds its block, fetched there or not. -/
theorem before0_1 (c : Dev nD) (t : Fin (cfgA hp).N) (d) : (dats hp m 0 c).before (1 : Fin 6) t d = iblk hp m c (1 : Fin 6) t :=
  ((dats hp m 0 c).before_in_eq_fetched (1 : Fin 6) rfl (fun _ => rfl) (fun _ _ _ => rfl) (fun t => by rw [after0_1]; unfold Dat.blockOf iblk; rfl) t d).trans
    (by unfold Dat.fetched Dat.blockOf iblk; rfl)
/-- Input window 2 holds its block, fetched there or not. -/
theorem before0_2 (c : Dev nD) (t : Fin (cfgA hp).N) (d) : (dats hp m 0 c).before (2 : Fin 6) t d = iblk hp m c (2 : Fin 6) t :=
  ((dats hp m 0 c).before_in_eq_fetched (2 : Fin 6) rfl (fun _ => rfl) (fun _ _ _ => rfl) (fun t => by rw [after0_2]; unfold Dat.blockOf iblk; rfl) t d).trans
    (by unfold Dat.fetched Dat.blockOf iblk; rfl)
/-- Input window 3 holds its block, fetched there or not. -/
theorem before0_3 (c : Dev nD) (t : Fin (cfgA hp).N) (d) : (dats hp m 0 c).before (3 : Fin 6) t d = iblk hp m c (3 : Fin 6) t :=
  ((dats hp m 0 c).before_in_eq_fetched (3 : Fin 6) rfl (fun _ => rfl) (fun _ _ _ => rfl) (fun t => by rw [after0_3]; unfold Dat.blockOf iblk; rfl) t d).trans
    (by unfold Dat.fetched Dat.blockOf iblk; rfl)
/-- Output 4's contents carry through the visits past the used ones. -/
theorem hcarry0_4 (c : Dev nD) : ∀ (t : Fin (cfgA hp).N) (ht : t.val ≠ 0), (cfgA hp).idle (4 : Fin 6) ((cfgA hp).grid.coords t) = true → (cfgA hp).fresh (4 : Fin 6) t.val = false →
    (dats hp m 0 c).after (4 : Fin 6) t = (dats hp m 0 c).after (4 : Fin 6) ⟨t.val - 1, by omega⟩ := by
  intro t ht hi hf
  rw [idle4_eq hp t] at hi
  have h : ¬ t.val < used T := Nat.not_lt.mpr (of_decide_eq_true hi)
  rw [after0_4, after0_4, traj0_eq, step0_B hp m c t h]
  unfold prev0; rw [dif_neg ht]

/-- Output 4's buffer holds at a visit past the used ones what the point before left. -/
theorem before0_4 (c : Dev nD) (t : Fin (cfgA hp).N) (h : ¬ t.val < used T) (d) :
    (dats hp m 0 c).before (4 : Fin 6) t d = (dats hp m 0 c).after (4 : Fin 6) t := by
  have hf := fresh4 hp t (Nat.not_lt.mp h)
  have h0 : t.val ≠ 0 := by have := used_pos hp; omega
  rw [(dats hp m 0 c).before_out_traj (4 : Fin 6) rfl (fun _ _ => rfl) (hcarry0_4 hp m c) t.val t rfl d, hf,
    if_neg Bool.false_ne_true]
  exact (hcarry0_4 hp m c t h0 (by rw [idle4_eq]; exact decide_eq_true (Nat.not_lt.mp h)) hf).symm

/-- Output 5's contents carry through the visits past the used ones. -/
theorem hcarry0_5 (c : Dev nD) : ∀ (t : Fin (cfgA hp).N) (ht : t.val ≠ 0), (cfgA hp).idle (5 : Fin 6) ((cfgA hp).grid.coords t) = true → (cfgA hp).fresh (5 : Fin 6) t.val = false →
    (dats hp m 0 c).after (5 : Fin 6) t = (dats hp m 0 c).after (5 : Fin 6) ⟨t.val - 1, by omega⟩ := by
  intro t ht hi hf
  rw [idle5_eq hp t] at hi
  have h : ¬ t.val < used T := Nat.not_lt.mpr (of_decide_eq_true hi)
  rw [after0_5, after0_5, traj0_eq, step0_B hp m c t h]
  unfold prev0; rw [dif_neg ht]

/-- Output 5's buffer holds at a visit past the used ones what the point before left. -/
theorem before0_5 (c : Dev nD) (t : Fin (cfgA hp).N) (h : ¬ t.val < used T) (d) :
    (dats hp m 0 c).before (5 : Fin 6) t d = (dats hp m 0 c).after (5 : Fin 6) t := by
  have hf := fresh5 hp t (Nat.not_lt.mp h)
  have h0 : t.val ≠ 0 := by have := used_pos hp; omega
  rw [(dats hp m 0 c).before_out_traj (5 : Fin 6) rfl (fun _ _ => rfl) (hcarry0_5 hp m c) t.val t rfl d, hf,
    if_neg Bool.false_ne_true]
  exact (hcarry0_5 hp m c t h0 (by rw [idle5_eq]; exact decide_eq_true (Nat.not_lt.mp h)) hf).symm

/-! ## The body obligation -/

/-- The body at point `t` on its staging memrefs, as the pipeline calls it. -/
abbrev bodyAt0 (t : Fin (cfgA hp).N) : Prog (TpuEff nD τ sig (Elt Ideal) Λ₀ .tc) PUnit :=
  cc0_up (crd hp t) (Memref.whole main_arg0) (Memref.isWhole_whole _) (ms0_0 hp t) (hs0_0 hp t) (ms0_1 hp t) (hs0_1 hp t) (ms0_2 hp t) (hs0_2 hp t) (ms0_3 hp t) (hs0_3 hp t) (ms0_4 hp t) (hs0_4 hp t) (ms0_5 hp t) (hs0_5 hp t) (Memref.whole cc0_scratch0) (Memref.isWhole_whole _)

set_option maxHeartbeats 4000000 in
/-- At a used visit the body, run on its blocks, leaves the visit's results. -/
theorem sound_A (c : Dev nD) (t : Fin (cfgA hp).N) (h : t.val < used T) :
      iprop((dats hp m 0 c).Φ t.castSucc ∗ (dats hp m 0 c).owesAt () t.castSucc
        ∗ (∃ d, owns (c : Thread nD τ) (ms0_0 hp t) fullShare ((dats hp m 0 c).before (0 : Fin 6) t d))
        ∗ (∃ d, owns (c : Thread nD τ) (ms0_1 hp t) fullShare ((dats hp m 0 c).before (1 : Fin 6) t d))
        ∗ (∃ d, owns (c : Thread nD τ) (ms0_2 hp t) fullShare ((dats hp m 0 c).before (2 : Fin 6) t d))
        ∗ (∃ d, owns (c : Thread nD τ) (ms0_3 hp t) fullShare ((dats hp m 0 c).before (3 : Fin 6) t d))
        ∗ (∃ d, owns (c : Thread nD τ) (ms0_4 hp t) fullShare ((dats hp m 0 c).before (4 : Fin 6) t d))
        ∗ (∃ d, owns (c : Thread nD τ) (ms0_5 hp t) fullShare ((dats hp m 0 c).before (5 : Fin 6) t d)))
      ⊢ wp frame (wpE (defs₀ (F := Ideal)) Variants.none c none) Set.univ (bodyAt0 hp t) fun _ =>
          iprop((dats hp m 0 c).Φ t.succ ∗ (dats hp m 0 c).owesAt () t.succ
            ∗ bigSep Finset.univ fun w : Fin (cfgA hp).W =>
                match (cfgA hp).idle w ((cfgA hp).grid.coords t) with
                | true =>
                  match ((cfgA hp).win w).flush t with
                  | false => iprop(∃ d, owns (c : Thread nD τ) (((cfgA hp).win w).stage ((cfgA hp).slots t w)) fullShare ((dats hp m 0 c).before w t d))
                  | true => owns (c : Thread nD τ) (((cfgA hp).win w).stage ((cfgA hp).slots t w)) fullShare ((dats hp m 0 c).after w t)
                | false => owns (c : Thread nD τ) (((cfgA hp).win w).stage ((cfgA hp).slots t w)) fullShare ((dats hp m 0 c).after w t)) := by
  rw [bigSep_W0]
  have i4 := (idle4_eq hp t).trans (decide_eq_false (Nat.not_le.mpr h))
  have i5 := (idle5_eq hp t).trans (decide_eq_false (Nat.not_le.mpr h))
  rewrite [i4]
  simp only [before0_0, before0_1, before0_2, before0_3, after0_0, after0_1, after0_2, after0_3, after0_4, after0_5]
  rewrite [show (dats hp m 0 c).Φ t.succ = Phi (T := T) c from rfl, show (dats hp m 0 c).Φ t.castSucc = Phi (T := T) c from rfl,
    show (dats hp m 0 c).owesAt () t.succ = (dats hp m 0 c).owesAt () t.castSucc from rfl]
  rewrite [traj0_eq, step0_A hp m c t h _]
  unfold Phi visit4 visit5
  iintro ⟨⟨⟨HS0, HT0⟩, Hr⟩, Ho, ⟨%d0, H0⟩, ⟨%d1, H1⟩, ⟨%d2, H2⟩, ⟨%d3, H3⟩, ⟨%d4, H4⟩, ⟨%d5, H5⟩⟩
  iapply (body_A c (crd hp t) (ms0_0 hp t) (hs0_0 hp t) (ms0_1 hp t) (hs0_1 hp t) (ms0_2 hp t) (hs0_2 hp t) (ms0_3 hp t) (hs0_3 hp t) (ms0_4 hp t) (hs0_4 hp t) (ms0_5 hp t) (hs0_5 hp t) T (iblk hp m c (0 : Fin 6) t) (iblk hp m c (1 : Fin 6) t) (iblk hp m c (2 : Fin 6) t) (iblk hp m c (3 : Fin 6) t) (hcond hp t h) (hchk hp (crd hp t)) _)
  isplitl [H0]; · iexact H0
  isplitl [H1]; · iexact H1
  isplitl [H2]; · iexact H2
  isplitl [H3]; · iexact H3
  isplitl [HT0]; · iexact HT0
  isplitl [H4]; · iexists _; iexact H4
  isplitl [H5]; · iexists _; iexact H5
  isplitl [HS0]; · iexact HS0
  iintro ⟨H0, H1, H2, H3, HT0, H4, H5, HS0⟩
  isplitl [HS0 HT0 Hr]
  · isplitl [HS0 HT0]
    · isplitl [HS0]
      · iexact HS0
      iexact HT0
    iexact Hr
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- At a visit past the used ones the body touches nothing. -/
theorem sound_B (c : Dev nD) (t : Fin (cfgA hp).N) (h : ¬ t.val < used T) :
      iprop((dats hp m 0 c).Φ t.castSucc ∗ (dats hp m 0 c).owesAt () t.castSucc
        ∗ (∃ d, owns (c : Thread nD τ) (ms0_0 hp t) fullShare ((dats hp m 0 c).before (0 : Fin 6) t d))
        ∗ (∃ d, owns (c : Thread nD τ) (ms0_1 hp t) fullShare ((dats hp m 0 c).before (1 : Fin 6) t d))
        ∗ (∃ d, owns (c : Thread nD τ) (ms0_2 hp t) fullShare ((dats hp m 0 c).before (2 : Fin 6) t d))
        ∗ (∃ d, owns (c : Thread nD τ) (ms0_3 hp t) fullShare ((dats hp m 0 c).before (3 : Fin 6) t d))
        ∗ (∃ d, owns (c : Thread nD τ) (ms0_4 hp t) fullShare ((dats hp m 0 c).before (4 : Fin 6) t d))
        ∗ (∃ d, owns (c : Thread nD τ) (ms0_5 hp t) fullShare ((dats hp m 0 c).before (5 : Fin 6) t d)))
      ⊢ wp frame (wpE (defs₀ (F := Ideal)) Variants.none c none) Set.univ (bodyAt0 hp t) fun _ =>
          iprop((dats hp m 0 c).Φ t.succ ∗ (dats hp m 0 c).owesAt () t.succ
            ∗ bigSep Finset.univ fun w : Fin (cfgA hp).W =>
                match (cfgA hp).idle w ((cfgA hp).grid.coords t) with
                | true =>
                  match ((cfgA hp).win w).flush t with
                  | false => iprop(∃ d, owns (c : Thread nD τ) (((cfgA hp).win w).stage ((cfgA hp).slots t w)) fullShare ((dats hp m 0 c).before w t d))
                  | true => owns (c : Thread nD τ) (((cfgA hp).win w).stage ((cfgA hp).slots t w)) fullShare ((dats hp m 0 c).after w t)
                | false => owns (c : Thread nD τ) (((cfgA hp).win w).stage ((cfgA hp).slots t w)) fullShare ((dats hp m 0 c).after w t)) := by
  rw [bigSep_W0]
  have i4 := (idle4_eq hp t).trans (decide_eq_true (Nat.not_lt.mp h))
  have i5 := (idle5_eq hp t).trans (decide_eq_true (Nat.not_lt.mp h))
  rewrite [i4]
  simp only [before0_0, before0_1, before0_2, before0_3, before0_4 hp m c t h, before0_5 hp m c t h, after0_0, after0_1, after0_2, after0_3]
  rewrite [show (dats hp m 0 c).Φ t.succ = Phi (T := T) c from rfl, show (dats hp m 0 c).Φ t.castSucc = Phi (T := T) c from rfl,
    show (dats hp m 0 c).owesAt () t.succ = (dats hp m 0 c).owesAt () t.castSucc from rfl]
  unfold Phi
  iintro ⟨⟨⟨⟨%a0, HS0⟩, HT0⟩, Hr⟩, Ho, ⟨%d0, H0⟩, ⟨%d1, H1⟩, ⟨%d2, H2⟩, ⟨%d3, H3⟩, ⟨%d4, H4⟩, ⟨%d5, H5⟩⟩
  iapply (kernelRun0_B c (crd hp t) (ms0_0 hp t) (hs0_0 hp t) (ms0_1 hp t) (hs0_1 hp t) (ms0_2 hp t) (hs0_2 hp t) (ms0_3 hp t) (hs0_3 hp t) (ms0_4 hp t) (hs0_4 hp t) (ms0_5 hp t) (hs0_5 hp t) T (hncond hp t h) _)
  isplitl [HT0]; · iexact HT0
  iintro HT0
  isplitl [HS0 HT0 Hr]
  · isplitl [HS0 HT0]
    · isplitl [HS0]
      · iexists _; iexact HS0
      iexact HT0
    iexact Hr
  isplitl [Ho]; · iexact Ho
  isplitl [H0]; · iexact H0
  isplitl [H1]; · iexact H1
  isplitl [H2]; · iexact H2
  isplitl [H3]; · iexact H3
  isplitl [H4]
  · cases ((cfgA hp).win (4 : Fin 6)).flush t
    · simp only; iexists d4; iexact H4
    · simp only; iexact H4
  cases ((cfgA hp).win (5 : Fin 6)).flush t
  · simp only; iexists d5; iexact H5
  · simp only; iexact H5

/-- The library's body obligation, at every point. -/
theorem body_obligation (c : Dev nD) : BodyObligation (dats hp m 0 c) (defs₀ (F := Ideal)) Variants.none () Set.univ := fun t => by
  rw [bigSep_W0]
  by_cases h : t.val < used T
  · exact sound_A hp m c t h
  · exact sound_B hp m c t h

/-! ## The launch -/

theorem share_eq (c : Dev nD) (w : Fin (cfgA hp).W) : (dats hp m 0 c).share w = fullShare := by unfold Dat.share; split <;> rfl

/-- The table as the launch hands it to the region. -/
theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- The invariant at the first point. -/
theorem phi0_intro (c : Dev nD) :
    iprop(Pipeline.ΦA spec0 c ∗ Pipeline.ΦT pre0 (adm hp).1 c) ⊢ (dats hp m 0 c).Φ 0 := by
  unfold Pipeline.ΦA Pipeline.ΦT
  rw [prefHeld_eq, scopedRest0_eq, show (dats hp m 0 c).Φ 0 = Phi (T := T) c from rfl]
  unfold Phi
  iintro ⟨⟨⟨%a0, HS0⟩, Hr⟩, HT0⟩
  isplitl [HS0 HT0]
  · isplitl [HS0]
    · iexists a0; iexact HS0
    iexact HT0
  iexact Hr

/-- At the last point the invariant gives the scratch and the register back. -/
theorem phiN_exit (c : Dev nD) : (dats hp m 0 c).Φ (Fin.last (cfgA hp).N) ⊢ (Pipeline.ΦA spec0 c : sProp 𝕄) := by
  unfold Pipeline.ΦA
  rw [scopedRest0_eq, show (dats hp m 0 c).Φ (Fin.last (cfgA hp).N) = Phi (T := T) c from rfl]
  unfold Phi
  iintro ⟨⟨⟨%a0, HS0⟩, -⟩, Hr⟩
  isplitl [HS0]
  · iexists a0; iexact HS0
  iexact Hr

variable (ρ : Dev nD → PrngReg) (hm : ∀ c : Dev nD, m ((c : Thread nD τ).loc main_arg0) = T)
include hm

theorem V_pre (c : Dev nD) (j : Fin 1) : V0 m c (Proc.devRef .tc (pre0.ref j)) = (adm hp).1 j := by
  fin_cases j
  exact (V_main_arg0 m c).trans (hm c)

/-- The buffers after the host lines that follow the region. -/
abbrev Vend (c : Dev nD) (b : Ref sig .tc) : Buf (Elt Ideal) ((c : Thread nD τ).loc b) :=
  Pipeline.afterTail (pcfgs (F := Ideal)) (fun _ => adm hp) (dats hp m) 0 (V0 m) sfx c b

set_option backward.isDefEq.respectTransparency.types false in
set_option maxHeartbeats 4000000 in
/-- Every weakly fair execution of @main terminates; at the end the arrays hold what the proof data says, the other buffers
    what the later host lines leave, and every semaphore counter reads zero. -/
theorem run_main : θ_run (defs (F := Ideal)) (onTc (τ := τ) (main (F := Ideal))) (s₀ m ρ)
    (fun r => Pipeline.FramePost (pcs hp) (dats hp m) 0 (Vend hp m) r ∧ r.2.sem = fun _ => 0) :=
  Pipeline.θ_run_frameP_around_track (Q' := _) (pcfgs (F := Ideal)) (fun _ => adm hp) (dats hp m) (0 : Fin 1) (launch0 (F := Ideal)) defs₀ Variants.none m ρ main
    (hbody := fun c => (body_obligation hp m c).loose) (hshare := fun c w => share_eq hp m c w)
    (howed := fun _ _ => rfl) (V₀ := V0 m) (opss := sfx) (hsub := sfx_sub) (hfresh := sfx_fresh) (hkeep := sfx_keeps)
    (hmain := hmain m Variants.none) (hA := fun _ _ => rfl) (hpf := V_pre hp m hm)
    (hin := phi0_intro hp m) (hout := phiN_exit hp m) (hQ' := fun _ h => h)

end Cert.KernelIdeal.Up

end
-- ==== Proof.IdealEnd.lean ====
/- The kernel program's last state: its arguments as they were, every semaphore counter at zero. -/
module

public import proofs.«01_k».proof.Proof.IdealFrame

@[expose] public section

set_option maxRecDepth 16384

noncomputable section

namespace Cert.KernelIdeal.Up

open Cert.KernelIdeal Cert.KernelIdeal.Gen Cert.Up
open Idealize.ShloMosaic
open Idealize.ShloMosaic.TcCoe
open Idealize.SL.Sem

variable {T : S576.Idx → BitVec 32} (hp : Plan (word T))
variable (m : (ℓ : Loc nD τ sig) → Buf (Elt Ideal) ℓ)

/-- No host line and no output of the region writes the table. -/
theorem Vend_table (c : Dev nD) : Vend hp m c main_arg0 = m ((c : Thread nD τ).loc main_arg0) := by
  unfold Vend Pipeline.afterTail
  rw [StableHlo.after_of_forall_not_mem (b := Proc.devRef .tc main_arg0) _ _ (List.forall_iff_forall_mem.mp (by
      simp only [sfx, hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

variable (ρ : Dev nD → PrngReg) (hm : ∀ c : Dev nD, m ((c : Thread nD τ).loc main_arg0) = T)
include hp hm

/-- The arguments are unchanged and every semaphore counter reads zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).2 main_arg0 (Pipeline.mem_restRefs_of main_arg0 (by decide) (by exact (by decide : ∀ w, Pipeline.arrRef spec0 w ≠ main_arg0))) |>.trans (Vend_table hp m c),
      ((h.1 c).1 (0 : Fin 6)).trans (((dats hp m 0 c).arrAt_in (0 : Fin 6) rfl _).trans (V_main_arg1 m c)),
      ((h.1 c).1 (1 : Fin 6)).trans (((dats hp m 0 c).arrAt_in (1 : Fin 6) rfl _).trans (V_main_arg2 m c)),
      ((h.1 c).1 (2 : Fin 6)).trans (((dats hp m 0 c).arrAt_in (2 : Fin 6) rfl _).trans (V_main_arg3 m c)),
      ((h.1 c).1 (3 : Fin 6)).trans (((dats hp m 0 c).arrAt_in (3 : Fin 6) rfl _).trans (V_main_arg4 m c))⟩, h.2⟩) (run_main hp m ρ hm)

end Cert.KernelIdeal.Up

end
-- ==== Proof.Common.lean ====
/- The mathematics both programs compute, one row of tokens at a time: an expert's hidden layer, its gated activation, the
   row's largest magnitude, the power of two that scales it into fp8's range, and the two ways of finding that power. -/
module

public import Idealize.ShloMosaic.PureOps.Ideal

@[expose] public section

set_option maxRecDepth 16384

noncomputable section

namespace Cert.Up

open Idealize.ShloMosaic

/-- A 32-bit word read as a float. -/
def lit (b : BitVec 32) : EReal := Ideal.ofBits .f32 b

/-- Column `c` of one row's hidden layer: codes times weights, times the row's scale, times the column's. -/
def hid (x : Fin 2816 → EReal) (side : Fin 384 → EReal) (w : Fin 2816 → Fin 5632 → EReal) (ws : Fin 5632 → EReal) (c : Fin 5632) : EReal :=
  (∑ k, x k * w k c) * side ⟨c.val % 128, by omega⟩ * ws c

/-- A gated activation: `g` times its logistic, times `u`. -/
def gated (g u : EReal) : EReal := g * Ideal.div 1 (1 + Ideal.exp (-g)) * u

/-- Column `c` of one row's activation. -/
def actv (x : Fin 2816 → EReal) (side : Fin 384 → EReal) (w : Fin 2816 → Fin 5632 → EReal) (ws : Fin 5632 → EReal) (c : Fin 2816) : EReal :=
  gated (hid x side w ws ⟨c.val, by omega⟩) (hid x side w ws ⟨2816 + c.val, by omega⟩)

/-- The largest magnitude of a row over fp8's largest number. -/
def top (a : Fin 2816 → EReal) : EReal :=
  (Finset.univ : Finset (Fin 2816)).fold max ⊥ (fun c => max (a c) (-(a c))) * lit 0x3B124925#32

/-- The exponent of `x`, as the reference counts it. -/
def rexp (x : EReal) : EReal :=
  if lit 0x00800000#32 ≤ x ∧ x < lit 0x7E800000#32 then
    (∑ k : Fin 252, if Ideal.exp2 ((((BitVec.ofNat 32 k.val - 126#32).toInt : ℝ)) : EReal) ≤ x then (1 : EReal) else 0) - lit 0x42FC0000#32
  else 0

/-- A row's activation as fp8 codes, -/
def codes (a : Fin 2816 → EReal) (c : Fin 2816) : EReal :=
  min (lit 0x43E00000#32) (max (lit 0xC3E00000#32) (a c * Ideal.exp2 (0 - rexp (top a))))

/-- and the row's scale. -/
def scale (a : Fin 2816 → EReal) : EReal := Ideal.exp2 (rexp (top a))

/-! ## The exponent by a binary search over powers of two -/

/-- One step of the search: set the bit if the power of two it leads to, capped, is at most `x`. -/
def step (q : BitVec 32 → Bool) (f b : BitVec 32) : BitVec 32 :=
  if q (if (f ||| b).slt 253#32 then f ||| b else 253#32) then f ||| b else f

/-- The field found. -/
def field (q : BitVec 32 → Bool) : BitVec 32 :=
  step q (step q (step q (step q (step q (step q (step q (step q 0#32 128#32) 64#32) 32#32) 16#32) 8#32) 4#32) 2#32) 1#32

/-- The exponent of that field. -/
def kexp (q : BitVec 32 → Bool) : BitVec 32 :=
  if field q = 0#32 ∨ field q = 255#32 then 0#32 else field q - 126#32

/-- The comparison the search makes. -/
def ge (x : EReal) (n : BitVec 32) : Bool := decide (lit (n <<< 23#32) ≤ x)

/-- The test of a row's tile being in use: the row's number against the number of rows in use. -/
theorem live_iff (R : ℕ) (hR : R < 9472) (w : BitVec 32) (hw : w.toNat ≤ 37) (v : BitVec 32) (hv : v = w) :
    IntOp.cmpi .slt (BitVec.ofNat 32 R) (IntOp.muli v 256#32) = if R / 256 < w.toNat then 1#1 else 0#1 := by
  subst hv
  have e1 : (BitVec.ofNat 32 R).toInt = (R : ℤ) := by
    rw [BitVec.toInt_eq_toNat_of_lt (by rw [BitVec.toNat_ofNat]; omega), BitVec.toNat_ofNat]
    omega
  have e2 : (v * 256#32).toInt = (v.toNat * 256 : ℤ) := by
    have h : (v * 256#32).toNat = v.toNat * 256 := by
      rw [BitVec.toNat_mul]; simp; omega
    rw [BitVec.toInt_eq_toNat_of_lt (by rw [h]; omega), h]
    push_cast; rfl
  show BitVec.ofBool ((BitVec.ofNat 32 R).slt (v * 256#32)) = _
  have key : (BitVec.ofNat 32 R).slt (v * 256#32) = decide (R / 256 < v.toNat) := by
    unfold BitVec.slt
    rw [e1, e2]
    exact decide_eq_decide.mpr (by omega)
  rw [key]
  by_cases h : R / 256 < v.toNat
  · rw [if_pos h, decide_eq_true h]; rfl
  · rw [if_neg h, decide_eq_false h]; rfl

end Cert.Up

end
-- ==== Proof.IdealTile.lean ====
/- One tile of the kernel's activation, read at an index: the gated product of two columns of the hidden layer. -/
module

public import proofs.«01_k».proof.Proof.IdealRun
public import proofs.«01_k».proof.Proof.Common
public import Idealize.ShloMosaic.Lib.Pointwise

@[expose] public section

set_option maxRecDepth 16384

noncomputable section

namespace Cert.KernelIdeal.Up

open Cert.KernelIdeal Cert.KernelIdeal.Gen Cert.Up
open Idealize.ShloMosaic

theorem lit_one : Ideal.ofBits .f32 0x3F800000#32 = 1 := by
  simp [Ideal.ofBits, Ideal.ieee, -EReal.coe_mul]; norm_num

theorem lanes_apply (v9 : Vec Ideal S256x128 .f32) (r l : Fin 256) :
    k0_pay2 (F := Ideal) v9 (ix2 r l) = v9 (ix2 r ⟨l.val % 128, by omega⟩) := by
  pointwise [k0_pay2]
  have := l.isLt
  split <;> rename_i h <;> congr 1 <;> apply congrArg (ix2 r) <;> apply Fin.ext
  · exact (Nat.mod_eq_of_lt h).symm
  · show l.val - 128 = l.val % 128
    omega

theorem tile_apply (v8 : Vec Ideal S256x2816 .fp8e4m3) (v9 : Vec Ideal S256x128 .f32) (v12 v15 : Vec Ideal S1x2816x256 .fp8e4m3)
    (v20 v25 : Vec Ideal S1x256 .f32) (r l : Fin 256) :
    k0_pay3 (F := Ideal) v8 v9 v12 v15 v20 v25 (ix2 r l)
      = gated ((∑ k : Fin 2816, v8 (ix2 r k) * v12 (ix3 0 k l)) * v9 (ix2 r ⟨l.val % 128, by omega⟩) * v20 (ix2 0 l))
          ((∑ k : Fin 2816, v8 (ix2 r k) * v15 (ix3 0 k l)) * v9 (ix2 r ⟨l.val % 128, by omega⟩) * v25 (ix2 0 l)) := by
  rw [← lanes_apply v9 r l]
  generalize hq : k0_pay2 (F := Ideal) v9 = q
  unfold gated
  pointwise [k0_pay3, hq]
  simp only [hq, lit_one, zero_sub]

end Cert.KernelIdeal.Up

end
-- ==== Proof.Exponent.lean ====
/- The exponent a binary search finds and the exponent the reference counts give the same powers of two. -/
module

public import proofs.«01_k».proof.Proof.Common

@[expose] public section

set_option maxRecDepth 16384

noncomputable section

namespace Cert.Up

open Idealize.ShloMosaic

theorem pow_fields : ∀ n : Fin 256, ((BitVec.ofNat 32 n.val <<< 23#32).extractLsb' 31 1 == 1#1) = false
    ∧ ((BitVec.ofNat 32 n.val <<< 23#32).extractLsb' 23 8).toNat = n.val ∧ ((BitVec.ofNat 32 n.val <<< 23#32).extractLsb' 0 23).toNat = 0 := by
  decide +kernel

theorem two_zpow (a : ℤ) : (2 : ℝ) ^ a = 8388608 * (2 : ℝ) ^ (a - 23) := by
  rw [zpow_sub₀ two_ne_zero]
  have h : (2 : ℝ) ^ (23 : ℤ) = 8388608 := by norm_num
  rw [h]; ring

theorem normal_real (n : ℤ) : (if false = true then (-1 : ℝ) else 1) * ((2 ^ 23 + 0 : ℕ) : ℝ) * (2 : ℝ) ^ (n - (2 ^ (8 - 1) - 1) - (23 : ℕ)) = (2 : ℝ) ^ (n - 127) := by
  rw [two_zpow (n - 127)]
  norm_num

/-- The word of a normal power of two. -/
theorem lit_pow (n : ℕ) (h1 : 1 ≤ n) (h2 : n ≤ 254) : lit (BitVec.ofNat 32 n <<< 23#32) = (((2 : ℝ) ^ ((n : ℤ) - 127) : ℝ) : EReal) := by
  obtain ⟨e1, e2, e3⟩ := pow_fields ⟨n, by omega⟩
  simp only at e1 e2 e3
  unfold lit Ideal.ofBits Ideal.ieee
  simp only [Nat.reduceAdd]
  rw [e1, e2, e3, if_neg (by omega), if_neg (by omega)]
  rw [normal_real]

/-- The power of two of field `n`. -/
def pw (n : ℕ) : EReal := (((2 : ℝ) ^ ((n : ℤ) - 127) : ℝ) : EReal)

theorem pw_mono {a b : ℕ} (h : a ≤ b) : pw a ≤ pw b := by
  unfold pw
  rw [EReal.coe_le_coe_iff]
  exact zpow_le_zpow_right₀ (by norm_num) (by omega)

/-- How many of the powers of two are at most `x`. -/
theorem exists_level (x : EReal) : ∃ N : Fin 254, ∀ n, 1 ≤ n → n ≤ 253 → (pw n ≤ x ↔ n ≤ N.val) := by
  classical
  refine ⟨⟨Nat.findGreatest (fun n => pw n ≤ x) 253, Nat.lt_succ_of_le (Nat.findGreatest_le _)⟩, fun n h1 h2 => ⟨fun h => Nat.le_findGreatest h2 h, fun h => ?_⟩⟩
  have hN : pw (Nat.findGreatest (fun n => pw n ≤ x) 253) ≤ x :=
    Nat.findGreatest_of_ne_zero (P := fun n => pw n ≤ x) rfl (by simp only at h; omega)
  exact (pw_mono h).trans hN

theorem or_bounds (f b : BitVec 32) (hf : f.toNat < 256) (hb : 1 ≤ b.toNat) (hb' : b.toNat < 256) :
    1 ≤ (f ||| b).toNat ∧ (f ||| b).toNat < 256 := by
  rw [BitVec.toNat_or]
  exact ⟨hb.trans Nat.right_le_or, Nat.or_lt_two_pow (n := 8) hf hb'⟩

theorem step_congr {q q' : BitVec 32 → Bool} (h : ∀ v : BitVec 32, 1 ≤ v.toNat → v.toNat ≤ 253 → q v = q' v) (f b : BitVec 32)
    (hf : f.toNat < 256) (hb : 1 ≤ b.toNat) (hb' : b.toNat < 256) : step q f b = step q' f b ∧ (step q f b).toNat < 256 := by
  obtain ⟨h1, h2⟩ := or_bounds f b hf hb hb'
  have e : q (if (f ||| b).slt 253#32 then f ||| b else 253#32) = q' (if (f ||| b).slt 253#32 then f ||| b else 253#32) := by
    by_cases hs : (f ||| b).slt 253#32 = true
    · rw [if_pos hs]
      apply h _ h1
      simp only [BitVec.slt, decide_eq_true_eq, BitVec.toInt, BitVec.toNat_ofNat] at hs; omega
    · rw [if_neg hs]; exact h _ (by decide) (by decide)
  unfold step
  rw [e]
  have hc : ∀ c : Bool, (if c = true then f ||| b else f).toNat < 256 := by
    intro c; cases c
    · exact hf
    · exact h2
  exact ⟨rfl, hc _⟩

theorem field_congr {q q' : BitVec 32 → Bool} (h : ∀ v : BitVec 32, 1 ≤ v.toNat → v.toNat ≤ 253 → q v = q' v) : field q = field q' := by
  have a1 := step_congr h 0#32 128#32 (by decide) (by decide) (by decide)
  have a2 := step_congr h _ 64#32 a1.2 (by decide) (by decide)
  have a3 := step_congr h _ 32#32 a2.2 (by decide) (by decide)
  have a4 := step_congr h _ 16#32 a3.2 (by decide) (by decide)
  have a5 := step_congr h _ 8#32 a4.2 (by decide) (by decide)
  have a6 := step_congr h _ 4#32 a5.2 (by decide) (by decide)
  have a7 := step_congr h _ 2#32 a6.2 (by decide) (by decide)
  have a8 := step_congr h _ 1#32 a7.2 (by decide) (by decide)
  unfold field
  rw [a8.1, a7.1, a6.1, a5.1, a4.1, a3.1, a2.1, a1.1]

/-- The search at every level, -/
theorem field_level : ∀ N : Fin 254, field (fun v => decide (v.toNat ≤ N.val)) = if N.val = 253 then 255#32 else BitVec.ofNat 32 N.val := by
  decide +kernel

theorem ge_level (x : EReal) (N : Fin 254) (h : ∀ n, 1 ≤ n → n ≤ 253 → (pw n ≤ x ↔ n ≤ N.val)) :
    field (ge x) = if N.val = 253 then 255#32 else BitVec.ofNat 32 N.val := by
  rw [← field_level N]
  refine field_congr fun v h1 h2 => ?_
  unfold ge
  have e : lit (v <<< 23#32) = pw v.toNat := by
    have := lit_pow v.toNat h1 (by omega)
    rwa [BitVec.ofNat_toNat, BitVec.setWidth_eq] at this
  rw [e]
  exact decide_eq_decide.mpr (h _ h1 h2)

theorem words_up : ∀ N : Fin 254, (BitVec.ofNat 32 N.val - 126#32 + 127#32) = BitVec.ofNat 32 (N.val + 1) := by decide +kernel
theorem words_down : ∀ N : Fin 254, (0#32 - (BitVec.ofNat 32 N.val - 126#32) + 127#32) = BitVec.ofNat 32 (253 - N.val) := by decide +kernel
theorem words_int : ∀ k : Fin 252, (BitVec.ofNat 32 k.val - 126#32).toInt = (k.val : ℤ) - 126 := by decide +kernel
theorem words_zero : ∀ N : Fin 254, (BitVec.ofNat 32 N.val = 0#32 ↔ N.val = 0) ∧ ¬ BitVec.ofNat 32 N.val = 255#32 := by decide +kernel
theorem count_level : ∀ N : Fin 254, N.val ≤ 252 → ((Finset.univ : Finset (Fin 252)).filter fun k => k.val + 1 ≤ N.val).card = N.val := by
  intro N hN
  have e : ((Finset.univ : Finset (Fin 252)).filter fun k => k.val + 1 ≤ N.val) = (Finset.univ : Finset (Fin N.val)).map (Fin.castLEEmb hN) := by
    ext k
    simp only [Finset.mem_filter, Finset.mem_univ, true_and, Finset.mem_map]
    constructor
    · intro h; exact ⟨⟨k.val, by omega⟩, Fin.ext rfl⟩
    · rintro ⟨a, rfl⟩; have := a.isLt; simp only [Fin.castLEEmb_apply, Fin.val_castLE]; omega
  rw [e, Finset.card_map, Finset.card_univ, Fintype.card_fin]

theorem exp2_int (i : ℤ) : Ideal.exp2 (((i : ℝ)) : EReal) = (((2 : ℝ) ^ i : ℝ) : EReal) := by
  rw [Ideal.exp2_coe]
  exact congrArg _ (Real.rpow_intCast 2 i)

theorem lit_126 : lit 0x42FC0000#32 = ((126 : ℝ) : EReal) := by
  simp [lit, Ideal.ofBits, Ideal.ieee, -EReal.coe_mul]; norm_num

theorem lit_small : lit 0x00800000#32 = pw 1 := by
  have := lit_pow 1 (by decide) (by decide)
  exact this
theorem lit_large : lit 0x7E800000#32 = pw 253 := by
  have := lit_pow 253 (by decide) (by decide)
  exact this

/-- The exponent the reference counts, from the level. -/
theorem rexp_level (x : EReal) (N : Fin 254) (h : ∀ n, 1 ≤ n → n ≤ 253 → (pw n ≤ x ↔ n ≤ N.val)) :
    rexp x = (((if N.val = 0 ∨ N.val = 253 then 0 else (N.val : ℤ) - 126 : ℤ) : ℝ) : EReal) := by
  unfold rexp
  rw [lit_small, lit_large]
  have h0 : pw 1 ≤ x ↔ 1 ≤ N.val := h 1 (by decide) (by decide)
  have h1 : x < pw 253 ↔ ¬ 253 ≤ N.val := by rw [← not_le]; exact not_congr (h 253 (by decide) (by decide))
  have hN := N.isLt
  by_cases hc : N.val = 0 ∨ N.val = 253
  · rw [if_neg (by rw [h0, h1]; omega), if_pos hc]; simp
  · rw [if_pos (by rw [h0, h1]; omega), if_neg hc]
    have e : ∀ k : Fin 252, (Ideal.exp2 ((((BitVec.ofNat 32 k.val - 126#32).toInt : ℝ)) : EReal) ≤ x) = (k.val + 1 ≤ N.val) := by
      intro k
      rw [words_int, exp2_int]
      have := h (k.val + 1) (by omega) (by omega)
      unfold pw at this
      rw [show ((k.val + 1 : ℕ) : ℤ) - 127 = (k.val : ℤ) - 126 by omega] at this
      exact propext this
    simp only [e]
    rw [Finset.sum_ite, Finset.sum_const_zero, add_zero, Finset.sum_const, count_level N (by omega), nsmul_one, lit_126]
    rw [← EReal.coe_coe_eq_natCast, ← EReal.coe_sub]
    push_cast; rfl

/-- THE EXPONENT: the kernel's words are the reference's powers of two. -/
theorem pow_eq (x : EReal) : lit ((kexp (ge x) + 127#32) <<< 23#32) = Ideal.exp2 (rexp x)
    ∧ lit ((0#32 - kexp (ge x) + 127#32) <<< 23#32) = Ideal.exp2 (0 - rexp x) := by
  obtain ⟨N, h⟩ := exists_level x
  have hN := N.isLt
  rw [rexp_level x N h, zero_sub, ← EReal.coe_neg, ← Int.cast_neg, exp2_int, exp2_int]
  unfold kexp
  rw [ge_level x N h]
  by_cases hc : N.val = 0 ∨ N.val = 253
  · rw [if_pos hc]
    have e : (if N.val = 253 then 255#32 else BitVec.ofNat 32 N.val) = 0#32 ∨ (if N.val = 253 then 255#32 else BitVec.ofNat 32 N.val) = 255#32 := by
      rcases hc with hc | hc
      · left; rw [if_neg (by omega)]; exact (words_zero N).1.mpr hc
      · right; rw [if_pos hc]
    rw [if_pos e]
    have := lit_pow 127 (by decide) (by decide)
    exact ⟨this.trans (by norm_num), this.trans (by norm_num)⟩
  · rw [if_neg hc, if_neg (by omega : ¬ N.val = 253)]
    have e : ¬ (BitVec.ofNat 32 N.val = 0#32 ∨ BitVec.ofNat 32 N.val = 255#32) := by
      rw [(words_zero N).1]; exact fun h => h.elim (fun h => hc (.inl h)) (words_zero N).2
    rw [if_neg e, words_up, words_down, lit_pow _ (by omega) (by omega), lit_pow _ (by omega) (by omega)]
    exact ⟨by congr 2; omega, by congr 2; omega⟩

end Cert.Up

end
-- ==== Proof.IdealSearch.lean ====
/- The kernel's exponent of a row's scale: its eight compares are the steps of the binary search, and the two powers of two built from it
   are the reference's. -/
module

public import proofs.«01_k».proof.Proof.IdealTile
public import proofs.«01_k».proof.Proof.Exponent

@[expose] public section

set_option maxRecDepth 16384

noncomputable section

namespace Cert.KernelIdeal.Up

open Cert.KernelIdeal Cert.KernelIdeal.Gen Cert.Up
open Idealize.ShloMosaic

/-- The compare for one bit, -/
def cmpBit (q : FVec Ideal S256x1 .f32) (f : IVec S256x1 32) (b : BitVec 32) : IVec S256x1 1 :=
  cmpf .oge q (bitcastToFloat .f32 (shli (minsi (ori f (broadcast S256x1 b)) (broadcast S256x1 253#32)) (broadcast S256x1 23#32)))

/-- and the bit set or left. -/
def setBit (q : FVec Ideal S256x1 .f32) (f : IVec S256x1 32) (b : BitVec 32) : IVec S256x1 32 :=
  select (cmpBit q f b) (ori f (broadcast S256x1 b)) f

theorem shl_23 (n : BitVec 32) : IntOp.shli .vector n 23#32 = n <<< 23#32 := by
  unfold IntOp.shli
  rw [if_pos (by decide)]

theorem setBit_apply (q : FVec Ideal S256x1 .f32) (f : IVec S256x1 32) (b : BitVec 32) (y : S256x1.Idx) :
    setBit q f b y = step (ge (q y)) (f y) b := by
  show Scalar.select (Ideal.cmp .oge (q y) (Ideal.ofBits .f32 (IntOp.shli .vector (IntOp.minsi (f y ||| b) 253#32) 23#32))) (f y ||| b) (f y) = _
  rw [shl_23]
  have hm : IntOp.minsi (f y ||| b) 253#32 = if (f y ||| b).slt 253#32 then f y ||| b else 253#32 := by
    unfold IntOp.minsi; rfl
  rw [hm]
  unfold step
  generalize hn : (if (f y ||| b).slt 253#32 then f y ||| b else 253#32) = n
  unfold Scalar.select ge lit Ideal.cmp
  dsimp only
  by_cases h : Ideal.ofBits .f32 (n <<< 23#32) ≤ q y
  · rw [decide_eq_true h]; rfl
  · rw [decide_eq_false h]; rfl

/-- The field the kernel finds is the search's. -/
theorem field_apply (q : FVec Ideal S256x1 .f32) (y : S256x1.Idx) :
    k0_pay47 (F := Ideal) q (k0_pay45 (F := Ideal) q k0_pay43 (cmpBit q k0_pay43 128#32) 128#32)
        (k0_pay46 (F := Ideal) q k0_pay43 (cmpBit q k0_pay43 128#32) 128#32) 8#32 y = field (ge (q y)) := by
  have h5 : k0_pay45 (F := Ideal) q k0_pay43 (cmpBit q k0_pay43 128#32) 128#32
      = setBit q (setBit q (setBit q (setBit q k0_pay43 128#32) 64#32) 32#32) 16#32 := rfl
  have h6 : k0_pay46 (F := Ideal) q k0_pay43 (cmpBit q k0_pay43 128#32) 128#32
      = cmpBit q (k0_pay45 (F := Ideal) q k0_pay43 (cmpBit q k0_pay43 128#32) 128#32) 8#32 := rfl
  have h7 : ∀ f : IVec S256x1 32, k0_pay47 (F := Ideal) q f (cmpBit q f 8#32) 8#32
      = setBit q (setBit q (setBit q (setBit q f 8#32) 4#32) 2#32) 1#32 := fun _ => rfl
  rw [h6, h7, h5]
  simp only [setBit_apply]
  rfl

/-- The exponent the kernel selects. -/
theorem kexp_apply (q : FVec Ideal S256x1 .f32) (y : S256x1.Idx) (f : IVec S256x1 32) (t : IVec S256x1 1)
    (hf : k0_pay47 (F := Ideal) q f t 8#32 y = field (ge (q y))) :
    k0_pay51 (k0_pay48 (F := Ideal) q f t 8#32) (k0_pay49 (F := Ideal) q f t 8#32) k0_pay50 y = kexp (ge (q y)) := by
  show Scalar.select (IntOp.ori (IntOp.cmpi .eq (k0_pay47 (F := Ideal) q f t 8#32 y) 0#32) (IntOp.cmpi .eq (k0_pay47 (F := Ideal) q f t 8#32 y) 255#32))
    0#32 (k0_pay47 (F := Ideal) q f t 8#32 y - 126#32) = _
  rw [hf]
  unfold kexp
  generalize field (ge (q y)) = k
  unfold Scalar.select IntOp.cmpi IntOp.ori
  dsimp only
  by_cases h0 : k = 0#32
  · subst h0; simp
  · by_cases h1 : k = 255#32
    · subst h1; simp
    · simp [h0, h1, beq_eq_false_iff_ne.mpr h0, beq_eq_false_iff_ne.mpr h1]

/-- The codes the kernel writes for a row with activation `v` and scale's argument `q`, -/
theorem codes_apply (q : FVec Ideal S256x1 .f32) (f : IVec S256x1 32) (t : IVec S256x1 1) (v : Vec Ideal S256x2816 .f32) (r : Fin 256) (c : Fin 2816)
    (hf : k0_pay47 (F := Ideal) q f t 8#32 (ix2 r 0) = field (ge (q (ix2 r 0)))) :
    k0_pay52 (F := Ideal) (k0_pay48 (F := Ideal) q f t 8#32) (k0_pay49 (F := Ideal) q f t 8#32) k0_pay50 v (ix3 0 r c)
      = min (lit 0x43E00000#32) (max (lit 0xC3E00000#32) (v (ix2 r c) * Ideal.exp2 (0 - rexp (q (ix2 r 0))))) := by
  have hk := kexp_apply q (ix2 r 0) f t hf
  rw [← (pow_eq (q (ix2 r 0))).2, ← hk]
  generalize hg : k0_pay51 (k0_pay48 (F := Ideal) q f t 8#32) (k0_pay49 (F := Ideal) q f t 8#32) k0_pay50 = g
  pointwise [k0_pay52, hg]
  simp only [hg, lit, shl_23]
  rfl

/-- and the scale it writes. -/
theorem scale_apply (q : FVec Ideal S256x1 .f32) (f : IVec S256x1 32) (t : IVec S256x1 1) (v : Vec Ideal S256x128 .f32) (r : Fin 256) (l : Fin 128)
    (hf : k0_pay47 (F := Ideal) q f t 8#32 (ix2 r 0) = field (ge (q (ix2 r 0)))) :
    k0_pay1 (F := Ideal) v (k0_pay54 (k0_pay48 (F := Ideal) q f t 8#32) (k0_pay49 (F := Ideal) q f t 8#32) k0_pay50) (ix3 0 r l)
      = Ideal.exp2 (rexp (q (ix2 r 0))) * v (ix2 r l) := by
  have hk := kexp_apply q (ix2 r 0) f t hf
  rw [← (pow_eq (q (ix2 r 0))).1, ← hk]
  generalize hg : k0_pay51 (k0_pay48 (F := Ideal) q f t 8#32) (k0_pay49 (F := Ideal) q f t 8#32) k0_pay50 = g
  pointwise [k0_pay1, k0_pay54, hg]
  simp only [hg, lit, shl_23]
  rfl

end Cert.KernelIdeal.Up

end
-- ==== Proof.IdealBlock.lean ====
/- What a used visit leaves in its two output blocks, read at an index: the row's activation as fp8 codes, and its scale times the
   slot's gate. -/
module

public import proofs.«01_k».proof.Proof.IdealSearch
public import proofs.«01_k».proof.Proof.IdealFrame
public import Idealize.ShloMosaic.Lib.VecWindow

@[expose] public section

set_option maxRecDepth 16384
set_option Elab.async false

noncomputable section

namespace Cert.KernelIdeal.Up

open Cert.KernelIdeal Cert.KernelIdeal.Gen Cert.Up
open Idealize.ShloMosaic

/-! ## One tile of columns -/

/-- A magnitude. -/
def mag (a : EReal) : EReal := max a (-a)

theorem mag_nonneg (a : EReal) : 0 ≤ mag a := by
  unfold mag
  rcases le_total 0 a with h | h
  · exact le_max_of_le_left h
  · exact le_max_of_le_right (EReal.le_neg_of_le_neg (by simpa using h))

section
variable {sig' : RefSig} {κ : Kind} {sp2 sp3 sp4 sp5 : Space}
  (b2 : View sig' κ sp2 S256x2816 .fp8e4m3) (b3 : View sig' κ sp3 S256x384 .f32) (b4 : View sig' κ sp4 S1x2816x5632 .fp8e4m3)
  (b5 : View sig' κ sp5 S4x5632 .f32)
  (x0 : S256x2816.Idx → Elt Ideal .fp8e4m3) (x1 : S256x384.Idx → Elt Ideal .f32) (x2 : S1x2816x5632.Idx → Elt Ideal .fp8e4m3)
  (x3 : S4x5632.Idx → Elt Ideal .f32)

/-- The activation of row `r` of a block, at expert `e`'s scales. -/
def rowAct (e : Fin 4) (r : Fin 256) (c : Fin 2816) : EReal :=
  actv (fun k => x0 (ix2 r k)) (fun k => x1 (ix2 r k)) (fun k c => x2 (ix3 0 k c)) (fun c => x3 (ix2 e c)) c

/-- A tile's payload over its loads. -/
abbrev tile (o o' : ℕ) (A B : Fin 2 → ℕ) (i2 : ∀ a, (![0, 0] : Fin 2 → ℕ) a + S256x2816.size a ≤ S256x2816.size a)
    (i3 : ∀ a, (![0, 0] : Fin 2 → ℕ) a + S256x128.size a ≤ S256x384.size a)
    (iw : ∀ a, (![0, 0, o] : Fin 3 → ℕ) a + S1x2816x256.size a ≤ S1x2816x5632.size a)
    (iw' : ∀ a, (![0, 0, o'] : Fin 3 → ℕ) a + S1x2816x256.size a ≤ S1x2816x5632.size a)
    (iA : ∀ a, A a + S1x256.size a ≤ S4x5632.size a) (iB : ∀ a, B a + S1x256.size a ≤ S4x5632.size a) : FVec Ideal S256x256 .f32 :=
  k0_pay3 (F := Ideal) (View.readAt (Elt Ideal) b2 (Rect.unit (s := S256x2816) ![0, 0] S256x2816.size i2).toLoadRect (b2.rep x0))
    (View.readAt (Elt Ideal) b3 (Rect.unit (s := S256x384) ![0, 0] S256x128.size i3).toLoadRect (b3.rep x1))
    (View.readAt (Elt Ideal) b4 (Rect.unit (s := S1x2816x5632) ![0, 0, o] S1x2816x256.size iw).toLoadRect (b4.rep x2))
    (View.readAt (Elt Ideal) b4 (Rect.unit (s := S1x2816x5632) ![0, 0, o'] S1x2816x256.size iw').toLoadRect (b4.rep x2))
    (View.readAt (Elt Ideal) b5 (Rect.unit (s := S4x5632) A S1x256.size iA).toLoadRect (b5.rep x3))
    (View.readAt (Elt Ideal) b5 (Rect.unit (s := S4x5632) B S1x256.size iB).toLoadRect (b5.rep x3))

theorem tile_at (o o' : ℕ) (ho : o + 256 ≤ 2816) (hm : o % 128 = 0) (ho' : o' = 2816 + o) (e : Fin 4) (A B : Fin 2 → ℕ) (i2 i3 iw iw' iA iB)
    (hA : A = ![e.val, o]) (hB : B = ![e.val, o']) (r l : Fin 256) :
    tile b2 b3 b4 b5 x0 x1 x2 x3 o o' A B i2 i3 iw iw' iA iB (ix2 r l) = rowAct x0 x1 x2 x3 e r ⟨o + l.val, by omega⟩ := by
  subst hA hB ho'
  unfold tile rowAct actv hid
  rw [tile_apply]
  simp only [View.readAt_rep]
  have h2 : ∀ k : Fin 2816, (Rect.unit (s := S256x2816) ![0, 0] S256x2816.size i2).toLoadRect.idx (ix2 r k) = ix2 r k := fun k => by
    funext a; fin_cases a <;> apply Fin.ext <;> simp [LoadRect.idx, Rect.unit]
  have h3 : ∀ k : Fin 128, (Rect.unit (s := S256x384) ![0, 0] S256x128.size i3).toLoadRect.idx (ix2 r k) = ix2 r ⟨k.val, by omega⟩ := fun k => by
    funext a; fin_cases a <;> apply Fin.ext <;> simp [LoadRect.idx, Rect.unit]
  have h4 : ∀ (p : ℕ) (hp : p + 256 ≤ 5632) (ip) (k : Fin 2816), (Rect.unit (s := S1x2816x5632) ![0, 0, p] S1x2816x256.size ip).toLoadRect.idx (ix3 0 k l)
      = ix3 0 k ⟨p + l.val, by omega⟩ := fun p hp ip k => by
    funext a; fin_cases a <;> apply Fin.ext <;> simp [LoadRect.idx, Rect.unit]
  have h5 : ∀ (p : ℕ) (hp : p + 256 ≤ 5632) (ip), (Rect.unit (s := S4x5632) ![e.val, p] S1x256.size ip).toLoadRect.idx (ix2 0 l)
      = ix2 e ⟨p + l.val, by omega⟩ := fun p hp ip => by
    funext a; fin_cases a <;> apply Fin.ext <;> simp [LoadRect.idx, Rect.unit]
  have hl : ∀ q : ℕ, q % 128 = 0 → (q + l.val) % 128 = l.val % 128 := fun q hq => by omega
  rw [h5 o (by omega), h5 (2816 + o) (by omega)]
  simp only [h2, h3, h4 o (by omega), h4 (2816 + o) (by omega), hl o hm]
  have hq : (2816 + (o + l.val)) % 128 = l.val % 128 := by omega
  simp only [hq]
  simp only [← Nat.add_assoc]

/-- A running maximum carried over one more tile. -/
theorem max_tile (o o' : ℕ) (ho : o + 256 ≤ 2816) (hm : o % 128 = 0) (ho' : o' = 2816 + o) (e : Fin 4) (A B : Fin 2 → ℕ) (i2 i3 iw iw' iA iB)
    (hA : A = ![e.val, o]) (hB : B = ![e.val, o']) (M : FVec Ideal S256x256 .f32) (r l : Fin 256) :
    maximumf (F := Ideal) M (absf (F := Ideal) (tile b2 b3 b4 b5 x0 x1 x2 x3 o o' A B i2 i3 iw iw' iA iB)) (ix2 r l)
      = max (M (ix2 r l)) (mag (rowAct x0 x1 x2 x3 e r ⟨o + l.val, by omega⟩)) := by
  rw [← tile_at b2 b3 b4 b5 x0 x1 x2 x3 o o' ho hm ho' e A B i2 i3 iw iw' iA iB hA hB]
  generalize tile b2 b3 b4 b5 x0 x1 x2 x3 o o' A B i2 i3 iw iw' iA iB = t
  rfl

/-- A stored tile is the row's activation at the columns it is stored to. -/
theorem piece_tile (o o' : ℕ) (ho : o + 256 ≤ 2816) (hm : o % 128 = 0) (ho' : o' = 2816 + o) (e : Fin 4) (A B : Fin 2 → ℕ) (i2 i3 iw iw' iA iB)
    (hA : A = ![e.val, o]) (hB : B = ![e.val, o']) (is : ∀ a, (![0, o] : Fin 2 → ℕ) a + S256x256.size a ≤ S256x2816.size a) (x : S256x256.Idx) :
    shapeCast S256x256 (tile b2 b3 b4 b5 x0 x1 x2 x3 o o' A B i2 i3 iw iw' iA iB) shapeCasts_S256x256_S256x256 x
      = (fun y : S256x2816.Idx => rowAct x0 x1 x2 x3 e (y 0) (y 1)) ((Rect.unit (s := S256x2816) ![0, o] S256x256.size is).emb x) := by
  rw [shapeCast_id]
  obtain ⟨r, l, rfl⟩ : ∃ r l, x = ix2 r l := ⟨x 0, x 1, by funext a; fin_cases a <;> rfl⟩
  rw [tile_at b2 b3 b4 b5 x0 x1 x2 x3 o o' ho hm ho' e A B i2 i3 iw iw' iA iB hA hB]
  have h0 : ((Rect.unit (s := S256x2816) ![0, o] S256x256.size is).emb (ix2 r l)) = ix2 r ⟨o + l.val, by omega⟩ := by
    funext a; fin_cases a <;> apply Fin.ext <;> simp [Rect.emb, LoadRect.idx, Rect.unit]
  rw [h0]
  rfl
end

/-! ## The row maximum over the eleven tiles -/

theorem top_of (M : FVec Ideal S256x256 .f32) (r : Fin 256) :
    mulf (F := Ideal) (shapeCast S256x1 (multiReduction (F := Ideal) .maximumf [1] S256 M 0xFF800000#32 reduces_S256x256_S256 (.inl rfl) rfl) shapeCasts_S256_S256x1)
        (broadcast S256x1 (Scalar.ofBits (F := Ideal) .f32 0x3B124925#32)) (ix2 r 0)
      = (Finset.univ : Finset (Fin 256)).fold max ⊥ (fun l => M (ix2 r l)) * lit 0x3B124925#32 := by
  pointwise []
  rw [show Ideal.ofBits .f32 0xFF800000#32 = ⊥ by simp [Ideal.ofBits, Ideal.ieee]]
  rfl

theorem fold_tiles (g : Fin 2816 → EReal) (hg : ∀ c, 0 ≤ g c) (M : Fin 256 → EReal)
    (hM : ∀ l : Fin 256, M l = max (max (max (max (max (max (max (max (max (max (max 0 (g ⟨0 + l.val, by omega⟩)) (g ⟨256 + l.val, by omega⟩))
      (g ⟨512 + l.val, by omega⟩)) (g ⟨768 + l.val, by omega⟩)) (g ⟨1024 + l.val, by omega⟩)) (g ⟨1280 + l.val, by omega⟩))
      (g ⟨1536 + l.val, by omega⟩)) (g ⟨1792 + l.val, by omega⟩)) (g ⟨2048 + l.val, by omega⟩)) (g ⟨2304 + l.val, by omega⟩)) (g ⟨2560 + l.val, by omega⟩)) :
    (Finset.univ : Finset (Fin 256)).fold max ⊥ M = (Finset.univ : Finset (Fin 2816)).fold max ⊥ g := by
  have hle : ∀ c, g c ≤ (Finset.univ : Finset (Fin 2816)).fold max ⊥ g := fun c => (Finset.le_fold_max _).mpr (.inr ⟨c, Finset.mem_univ _, le_rfl⟩)
  apply le_antisymm
  · refine (Finset.fold_max_le _).mpr ⟨bot_le, fun l _ => ?_⟩
    rw [hM l]
    simp only [max_le_iff, hle, and_true]
    exact (hg 0).trans (hle 0)
  · refine (Finset.fold_max_le _).mpr ⟨bot_le, fun c _ => (Finset.le_fold_max _).mpr (.inr ⟨⟨c.val % 256, by omega⟩, Finset.mem_univ _, ?_⟩)⟩
    rw [hM]
    simp only [le_max_iff]
    have hc : ∀ o : ℕ, o = c.val / 256 * 256 → ∀ h, g c ≤ g ⟨o + c.val % 256, h⟩ := fun o ho h => le_of_eq (congrArg g (Fin.ext (by show c.val = o + c.val % 256; omega)))
    have := c.isLt
    have h : c.val / 256 < 11 := by omega
    generalize c.val / 256 = q at hc h
    interval_cases q <;> (have h1 := hc _ rfl (by omega); simp only [Nat.reduceMul] at h1; simp only [h1, true_or, or_true])

/-! ## The visit -/

section
variable (i : grid0.Coords) (arg2 : Memref sig .tc .vmem S256x2816 .fp8e4m3) (arg3 : Memref sig .tc .vmem S256x384 .f32) (arg4 : Memref sig .tc .vmem S1x2816x5632 .fp8e4m3) (arg5 : Memref sig .tc .vmem S4x5632 .f32) (T0 : (S576.Idx → Elt Ideal .i32))
  (x0 : (S256x2816.Idx → Elt Ideal .fp8e4m3)) (x1 : (S256x384.Idx → Elt Ideal .f32)) (x2 : (S1x2816x5632.Idx → Elt Ideal .fp8e4m3)) (x3 : (S4x5632.Idx → Elt Ideal .f32)) (k0_h1 : k0_cond1 i (View.readAt (Elt Ideal) (tbM0_0).view (Rect.unit (s := S576) ![0] S1.size inb_S576_S1_0).toLoadRect T0 (Shape.Idx.first (numel1_S1.symm ▸ Nat.one_pos))) = 1#1) (k0_hw1 : k0_chk1 i (View.readAt (Elt Ideal) (tbM0_0).view (Rect.unit (s := S576) ![0] S1.size inb_S576_S1_0).toLoadRect T0 (Shape.Idx.first (numel1_S1.symm ▸ Nat.one_pos))) (View.readAt (Elt Ideal) (tbM0_0).view (Rect.unit (s := S576) (k0_off2 i) S1.size (k0_off2_inb i)).toLoadRect T0 (Shape.Idx.first (numel1_S1.symm ▸ Nat.one_pos))))
  (e : Fin 4) (he : (kernelRun0_A.sl.r_1 i T0).toNat = e.val)

include he in
theorem quot_apply (r : Fin 256) :
    kernelRun0_A.sl.r_23 i arg2 arg3 arg4 arg5 T0 x0 x1 x2 x3 k0_h1 k0_hw1 (ix2 r 0) = top (rowAct x0 x1 x2 x3 e r) := by
  refine (top_of _ r).trans ?_
  unfold top
  refine congrArg₂ (· * ·) (fold_tiles (fun c => mag (rowAct x0 x1 x2 x3 e r c)) (fun c => mag_nonneg _) _ fun l => ?_) rfl
  have ho : ∀ n o : ℕ, n = e.val → (![n, o] : Fin 2 → ℕ) = ![e.val, o] := fun n o h => by rw [h]
  replace ho : ∀ o : ℕ, (![(kernelRun0_A.sl.r_1 i T0).toNat, o] : Fin 2 → ℕ) = ![e.val, o] := fun o => ho _ _ he
  refine (max_tile arg2.view arg3.view arg4.view arg5.view x0 x1 x2 x3 2560 5376 (by omega) (by omega) (by omega) e (k0_off23 (kernelRun0_A.sl.r_1 i T0)) (k0_off24 (kernelRun0_A.sl.r_1 i T0)) _ _ _ _ _ _ (ho _) (ho _) _ r l).trans (congrArg₂ max ?_ rfl)
  refine (max_tile arg2.view arg3.view arg4.view arg5.view x0 x1 x2 x3 2304 5120 (by omega) (by omega) (by omega) e (k0_off21 (kernelRun0_A.sl.r_1 i T0)) (k0_off22 (kernelRun0_A.sl.r_1 i T0)) _ _ _ _ _ _ (ho _) (ho _) _ r l).trans (congrArg₂ max ?_ rfl)
  refine (max_tile arg2.view arg3.view arg4.view arg5.view x0 x1 x2 x3 2048 4864 (by omega) (by omega) (by omega) e (k0_off19 (kernelRun0_A.sl.r_1 i T0)) (k0_off20 (kernelRun0_A.sl.r_1 i T0)) _ _ _ _ _ _ (ho _) (ho _) _ r l).trans (congrArg₂ max ?_ rfl)
  refine (max_tile arg2.view arg3.view arg4.view arg5.view x0 x1 x2 x3 1792 4608 (by omega) (by omega) (by omega) e (k0_off17 (kernelRun0_A.sl.r_1 i T0)) (k0_off18 (kernelRun0_A.sl.r_1 i T0)) _ _ _ _ _ _ (ho _) (ho _) _ r l).trans (congrArg₂ max ?_ rfl)
  refine (max_tile arg2.view arg3.view arg4.view arg5.view x0 x1 x2 x3 1536 4352 (by omega) (by omega) (by omega) e (k0_off15 (kernelRun0_A.sl.r_1 i T0)) (k0_off16 (kernelRun0_A.sl.r_1 i T0)) _ _ _ _ _ _ (ho _) (ho _) _ r l).trans (congrArg₂ max ?_ rfl)
  refine (max_tile arg2.view arg3.view arg4.view arg5.view x0 x1 x2 x3 1280 4096 (by omega) (by omega) (by omega) e (k0_off13 (kernelRun0_A.sl.r_1 i T0)) (k0_off14 (kernelRun0_A.sl.r_1 i T0)) _ _ _ _ _ _ (ho _) (ho _) _ r l).trans (congrArg₂ max ?_ rfl)
  refine (max_tile arg2.view arg3.view arg4.view arg5.view x0 x1 x2 x3 1024 3840 (by omega) (by omega) (by omega) e (k0_off11 (kernelRun0_A.sl.r_1 i T0)) (k0_off12 (kernelRun0_A.sl.r_1 i T0)) _ _ _ _ _ _ (ho _) (ho _) _ r l).trans (congrArg₂ max ?_ rfl)
  refine (max_tile arg2.view arg3.view arg4.view arg5.view x0 x1 x2 x3 768 3584 (by omega) (by omega) (by omega) e (k0_off9 (kernelRun0_A.sl.r_1 i T0)) (k0_off10 (kernelRun0_A.sl.r_1 i T0)) _ _ _ _ _ _ (ho _) (ho _) _ r l).trans (congrArg₂ max ?_ rfl)
  refine (max_tile arg2.view arg3.view arg4.view arg5.view x0 x1 x2 x3 512 3328 (by omega) (by omega) (by omega) e (k0_off7 (kernelRun0_A.sl.r_1 i T0)) (k0_off8 (kernelRun0_A.sl.r_1 i T0)) _ _ _ _ _ _ (ho _) (ho _) _ r l).trans (congrArg₂ max ?_ rfl)
  refine (max_tile arg2.view arg3.view arg4.view arg5.view x0 x1 x2 x3 256 3072 (by omega) (by omega) (by omega) e (k0_off5 (kernelRun0_A.sl.r_1 i T0)) (k0_off6 (kernelRun0_A.sl.r_1 i T0)) _ _ _ _ _ _ (ho _) (ho _) _ r l).trans (congrArg₂ max ?_ rfl)
  refine (max_tile arg2.view arg3.view arg4.view arg5.view x0 x1 x2 x3 0 2816 (by omega) (by omega) (by omega) e (k0_off3 (kernelRun0_A.sl.r_1 i T0)) (k0_off4 (kernelRun0_A.sl.r_1 i T0)) _ _ _ _ _ _ (ho _) (ho _) _ r l).trans (congrArg₂ max ?_ rfl)
  exact Ideal.ofBits_zero .f32

include he in
theorem scratch_apply (r : Fin 256) (c : Fin 2816) :
    kernelRun0_A.sl.v444 i arg2 arg3 arg4 arg5 T0 x0 x1 x2 x3 k0_h1 k0_hw1 (ix2 r c) = rowAct x0 x1 x2 x3 e r c := by
  have ho : ∀ o : ℕ, (![(kernelRun0_A.sl.r_1 i T0).toNat, o] : Fin 2 → ℕ) = ![e.val, o] := fun o => by rw [he]
  have hp : ∀ p ∈ kernelRun0_A.sl.HS0_11 i arg2 arg3 arg4 arg5 T0 x0 x1 x2 x3 k0_h1 k0_hw1, ∀ x, p.2 x = (fun y : S256x2816.Idx => rowAct x0 x1 x2 x3 e (y 0) (y 1)) (p.1.emb x) := by
    simp only [kernelRun0_A.sl.HS0_11, List.forall_mem_cons]
    refine ⟨?_, ?_, ?_, ?_, ?_, ?_, ?_, ?_, ?_, ?_, ?_, fun p h => absurd h List.not_mem_nil⟩ <;> intro x
    · exact piece_tile arg2.view arg3.view arg4.view arg5.view x0 x1 x2 x3 2560 5376 (by omega) (by omega) (by omega) e (k0_off23 (kernelRun0_A.sl.r_1 i T0)) (k0_off24 (kernelRun0_A.sl.r_1 i T0)) _ _ _ _ _ _ (ho _) (ho _) _ x
    · exact piece_tile arg2.view arg3.view arg4.view arg5.view x0 x1 x2 x3 2304 5120 (by omega) (by omega) (by omega) e (k0_off21 (kernelRun0_A.sl.r_1 i T0)) (k0_off22 (kernelRun0_A.sl.r_1 i T0)) _ _ _ _ _ _ (ho _) (ho _) _ x
    · exact piece_tile arg2.view arg3.view arg4.view arg5.view x0 x1 x2 x3 2048 4864 (by omega) (by omega) (by omega) e (k0_off19 (kernelRun0_A.sl.r_1 i T0)) (k0_off20 (kernelRun0_A.sl.r_1 i T0)) _ _ _ _ _ _ (ho _) (ho _) _ x
    · exact piece_tile arg2.view arg3.view arg4.view arg5.view x0 x1 x2 x3 1792 4608 (by omega) (by omega) (by omega) e (k0_off17 (kernelRun0_A.sl.r_1 i T0)) (k0_off18 (kernelRun0_A.sl.r_1 i T0)) _ _ _ _ _ _ (ho _) (ho _) _ x
    · exact piece_tile arg2.view arg3.view arg4.view arg5.view x0 x1 x2 x3 1536 4352 (by omega) (by omega) (by omega) e (k0_off15 (kernelRun0_A.sl.r_1 i T0)) (k0_off16 (kernelRun0_A.sl.r_1 i T0)) _ _ _ _ _ _ (ho _) (ho _) _ x
    · exact piece_tile arg2.view arg3.view arg4.view arg5.view x0 x1 x2 x3 1280 4096 (by omega) (by omega) (by omega) e (k0_off13 (kernelRun0_A.sl.r_1 i T0)) (k0_off14 (kernelRun0_A.sl.r_1 i T0)) _ _ _ _ _ _ (ho _) (ho _) _ x
    · exact piece_tile arg2.view arg3.view arg4.view arg5.view x0 x1 x2 x3 1024 3840 (by omega) (by omega) (by omega) e (k0_off11 (kernelRun0_A.sl.r_1 i T0)) (k0_off12 (kernelRun0_A.sl.r_1 i T0)) _ _ _ _ _ _ (ho _) (ho _) _ x
    · exact piece_tile arg2.view arg3.view arg4.view arg5.view x0 x1 x2 x3 768 3584 (by omega) (by omega) (by omega) e (k0_off9 (kernelRun0_A.sl.r_1 i T0)) (k0_off10 (kernelRun0_A.sl.r_1 i T0)) _ _ _ _ _ _ (ho _) (ho _) _ x
    · exact piece_tile arg2.view arg3.view arg4.view arg5.view x0 x1 x2 x3 512 3328 (by omega) (by omega) (by omega) e (k0_off7 (kernelRun0_A.sl.r_1 i T0)) (k0_off8 (kernelRun0_A.sl.r_1 i T0)) _ _ _ _ _ _ (ho _) (ho _) _ x
    · exact piece_tile arg2.view arg3.view arg4.view arg5.view x0 x1 x2 x3 256 3072 (by omega) (by omega) (by omega) e (k0_off5 (kernelRun0_A.sl.r_1 i T0)) (k0_off6 (kernelRun0_A.sl.r_1 i T0)) _ _ _ _ _ _ (ho _) (ho _) _ x
    · exact piece_tile arg2.view arg3.view arg4.view arg5.view x0 x1 x2 x3 0 2816 (by omega) (by omega) (by omega) e (k0_off3 (kernelRun0_A.sl.r_1 i T0)) (k0_off4 (kernelRun0_A.sl.r_1 i T0)) _ _ _ _ _ _ (ho _) (ho _) _ x
  unfold kernelRun0_A.sl.v444 View.readCov
  rw [View.readAt_full]
  exact View.read_writes_apply_of_pieces _ _ (fun y : S256x2816.Idx => rowAct x0 x1 x2 x3 e (y 0) (y 1)) _ hp (ix2 r c)
    (View.cover_of_tiledL (kernelRun0_A.sl.HS0_11 i arg2 arg3 arg4 arg5 T0 x0 x1 x2 x3 k0_h1 k0_hw1) ![256, 256] (by sl_kernel_rfl) _)

theorem field_at (r : Fin 256) :
    k0_pay47 (F := Ideal) (kernelRun0_A.sl.r_23 i arg2 arg3 arg4 arg5 T0 x0 x1 x2 x3 k0_h1 k0_hw1) (kernelRun0_A.sl.r_25 i arg2 arg3 arg4 arg5 T0 x0 x1 x2 x3 k0_h1 k0_hw1) (kernelRun0_A.sl.r_26 i arg2 arg3 arg4 arg5 T0 x0 x1 x2 x3 k0_h1 k0_hw1) 8#32 (ix2 r 0)
      = field (ge (kernelRun0_A.sl.r_23 i arg2 arg3 arg4 arg5 T0 x0 x1 x2 x3 k0_h1 k0_hw1 (ix2 r 0))) :=
  field_apply (kernelRun0_A.sl.r_23 i arg2 arg3 arg4 arg5 T0 x0 x1 x2 x3 k0_h1 k0_hw1) (ix2 r 0)

variable (c : Dev nD) (harg2 : arg2.IsWhole) (harg3 : arg3.IsWhole) (harg4 : arg4.IsWhole) (harg5 : arg5.IsWhole)
  (arg6 : Memref sig .tc .vmem S1x256x2816 .fp8e4m3) (harg6 : arg6.IsWhole) (arg7 : Memref sig .tc .vmem S1x256x128 .f32) (harg7 : arg7.IsWhole)

include he in
theorem out4_apply (r : Fin 256) (j : Fin 2816) :
    out0_A_4 c i arg2 harg2 arg3 harg3 arg4 harg4 arg5 harg5 arg6 harg6 arg7 harg7 T0 x0 x1 x2 x3 k0_h1 k0_hw1 (ix3 0 r j) = codes (rowAct x0 x1 x2 x3 e r) j := by
  unfold out0_A_4 kernelRun0_A
  dsimp only
  unfold kernelRun0_A.sl.HO4_1
  rw [View.read_writes_full]
  unfold kernelRun0_A.sl.r_27 kernelRun0_A.sl.r_28
  rw [codes_apply _ _ _ _ r j (field_at i arg2 arg3 arg4 arg5 T0 x0 x1 x2 x3 k0_h1 k0_hw1 r), quot_apply i arg2 arg3 arg4 arg5 T0 x0 x1 x2 x3 k0_h1 k0_hw1 e he r, scratch_apply i arg2 arg3 arg4 arg5 T0 x0 x1 x2 x3 k0_h1 k0_hw1 e he r j]
  rfl

include he in
theorem out5_apply (r : Fin 256) (l : Fin 128) :
    out0_A_5 c i arg2 harg2 arg3 harg3 arg4 harg4 arg5 harg5 arg6 harg6 arg7 harg7 T0 x0 x1 x2 x3 k0_h1 k0_hw1 (ix3 0 r l)
      = scale (rowAct x0 x1 x2 x3 e r) * (if kernelRun0_A.sl.r_29 i T0 = 0#32 then x1 (ix2 r ⟨128 + l.val, by omega⟩) else x1 (ix2 r ⟨256 + l.val, by omega⟩)) := by
  unfold out0_A_5 kernelRun0_A
  dsimp only
  unfold kernelRun0_A.sl.HO5_1
  rw [View.read_writes_full]
  unfold kernelRun0_A.sl.r_31 kernelRun0_A.sl.r_27 kernelRun0_A.sl.r_28
  rw [scale_apply _ _ _ _ r l (field_at i arg2 arg3 arg4 arg5 T0 x0 x1 x2 x3 k0_h1 k0_hw1 r), quot_apply i arg2 arg3 arg4 arg5 T0 x0 x1 x2 x3 k0_h1 k0_hw1 e he r]
  unfold scale
  congr 1
  unfold kernelRun0_A.sl.r_30 k0_pay53
  simp only [View.readAt_rep]
  by_cases hs : kernelRun0_A.sl.r_29 i T0 = 0#32
  · rw [if_pos hs, hs]
    show x1 _ = _
    congr 1
    funext a; fin_cases a <;> apply Fin.ext <;> simp [LoadRect.idx, Rect.unit]
  · have hc : Scalar.cmpi .eq (kernelRun0_A.sl.r_29 i T0) 0#32 = 0#1 := by
      show BitVec.ofBool (kernelRun0_A.sl.r_29 i T0 == 0#32) = 0#1
      rw [beq_false_of_ne hs]; rfl
    rw [if_neg hs, hc]
    show x1 _ = _
    congr 1
    funext a; fin_cases a <;> apply Fin.ext <;> simp [LoadRect.idx, Rect.unit]
end

end Cert.KernelIdeal.Up
-- ==== Proof.IdealArray.lean ====
/- The two result arrays of the kernel's region at an index: a row of a tile in use, in either slot, holds the codes and the
   scale of that row's activation under the expert the plan gives the tile in that slot. -/
module

public import proofs.«01_k».proof.Proof.IdealBlock
public import Idealize.ShloMosaic.Lib.Pipeline.Covers
public import Idealize.ShloMosaic.Lib.Pipeline.ValueKit

@[expose] public section

set_option maxRecDepth 16384

noncomputable section

namespace Cert.KernelIdeal.Up

open Cert.KernelIdeal Cert.KernelIdeal.Gen Cert.Up
open Idealize.ShloMosaic
open Idealize.ShloMosaic.TcCoe
open Idealize.ShloMosaic.Pipeline (Dat Cfg Window)

variable {T : S576.Idx → BitVec 32} (hp : Plan (word T))
variable (m : (ℓ : Loc nD τ sig) → Buf (Elt Ideal) ℓ)

/-! ## The input blocks -/

theorem index0_eq (t : Fin (cfgA hp).N) : ((cfgA hp).win (0 : Fin 6)).index t = ![(word T (192 + t.val)).toNat, 0] := by
  have h := tr0_eq T (grid0.coords t)
  rw [crd_val t] at h
  exact h
theorem index1_eq (t : Fin (cfgA hp).N) : ((cfgA hp).win (1 : Fin 6)).index t = ![(word T (192 + t.val)).toNat, 0] := by
  have h := tr1_eq T (grid0.coords t)
  rw [crd_val t] at h
  exact h
theorem index2_eq (t : Fin (cfgA hp).N) : ((cfgA hp).win (2 : Fin 6)).index t = ![(word T (320 + t.val)).toNat, 0, 0] := by
  have h := tr2_eq T (grid0.coords t)
  rw [crd_val t] at h
  exact h
theorem index3_eq (t : Fin (cfgA hp).N) : ((cfgA hp).win (3 : Fin 6)).index t = ![0, 0] := rfl

/-- Row `r` of the tile that visit `t` works on. -/
def rowOf (t : Fin (cfgA hp).N) (r : Fin 256) : Fin 9472 :=
  ⟨(word T (192 + t.val)).toNat * 256 + r.val, by have := hp.tile_lt t.val t.isLt; omega⟩

/-- Its expert. -/
def exOf (t : Fin (cfgA hp).N) : Fin 4 := ⟨(word T (320 + t.val)).toNat, hp.expert_lt t.val t.isLt⟩

theorem iblk0_at (c : Dev nD) (t : Fin (cfgA hp).N) (r : Fin 256) (k : Fin 2816) :
    iblk hp m c (0 : Fin 6) t (ix2 r k) = m ((c : Thread nD τ).loc main_arg1) (ix2 (rowOf hp t r) k) := by
  refine Eq.trans (congrArg (V m c main_arg1) (a₂ := ix2 (rowOf hp t r) k) ?_) (congrFun (V_main_arg1 m c) _)
  funext a
  apply Fin.ext
  refine (Window.rect_emb_val ((cfgA hp).win (0 : Fin 6)) t _ a rfl).trans ?_
  rw [index0_eq]
  fin_cases a
  · rfl
  · exact Nat.zero_add _

theorem iblk1_at (c : Dev nD) (t : Fin (cfgA hp).N) (r : Fin 256) (k : Fin 384) :
    iblk hp m c (1 : Fin 6) t (ix2 r k) = m ((c : Thread nD τ).loc main_arg2) (ix2 (rowOf hp t r) k) := by
  refine Eq.trans (congrArg (V m c main_arg2) (a₂ := ix2 (rowOf hp t r) k) ?_) (congrFun (V_main_arg2 m c) _)
  funext a
  apply Fin.ext
  refine (Window.rect_emb_val ((cfgA hp).win (1 : Fin 6)) t _ a rfl).trans ?_
  rw [index1_eq]
  fin_cases a
  · rfl
  · exact Nat.zero_add _

theorem iblk2_at (c : Dev nD) (t : Fin (cfgA hp).N) (k : Fin 2816) (j : Fin 5632) :
    iblk hp m c (2 : Fin 6) t (ix3 0 k j) = m ((c : Thread nD τ).loc main_arg3) (ix3 (exOf hp t) k j) := by
  refine Eq.trans (congrArg (V m c main_arg3) (a₂ := ix3 (exOf hp t) k j) ?_) (congrFun (V_main_arg3 m c) _)
  funext a
  apply Fin.ext
  refine (Window.rect_emb_val ((cfgA hp).win (2 : Fin 6)) t _ a rfl).trans ?_
  rw [index2_eq]
  fin_cases a
  · exact Nat.mul_one _
  · exact Nat.zero_add _
  · exact Nat.zero_add _

theorem iblk3_at (c : Dev nD) (t : Fin (cfgA hp).N) (e : Fin 4) (j : Fin 5632) :
    iblk hp m c (3 : Fin 6) t (ix2 e j) = m ((c : Thread nD τ).loc main_arg4) (ix2 e j) := by
  refine Eq.trans (congrArg (V m c main_arg4) (a₂ := ix2 e j) ?_) (congrFun (V_main_arg4 m c) _)
  funext a
  apply Fin.ext
  refine (Window.rect_emb_val ((cfgA hp).win (3 : Fin 6)) t _ a rfl).trans ?_
  rw [index3_eq]
  fin_cases a
  · exact Nat.zero_add _
  · exact Nat.zero_add _

/-! ## What the region computes of the arguments -/

/-- The activation of row `R` under expert `e`. -/
def act (c : Dev nD) (e : Fin 4) (R : Fin 9472) : Fin 2816 → EReal :=
  actv (fun k => m ((c : Thread nD τ).loc main_arg1) (ix2 R k)) (fun k => m ((c : Thread nD τ).loc main_arg2) (ix2 R k))
    (fun k j => m ((c : Thread nD τ).loc main_arg3) (ix3 e k j)) (fun j => m ((c : Thread nD τ).loc main_arg4) (ix2 e j))

theorem rowAct_at (c : Dev nD) (t : Fin (cfgA hp).N) (r : Fin 256) :
    rowAct (iblk hp m c (0 : Fin 6) t) (iblk hp m c (1 : Fin 6) t) (iblk hp m c (2 : Fin 6) t) (iblk hp m c (3 : Fin 6) t) (exOf hp t) r
      = act m c (exOf hp t) (rowOf hp t r) := by
  funext j
  unfold rowAct act
  simp only [iblk0_at, iblk1_at, iblk2_at, iblk3_at]

theorem visit4_at (c : Dev nD) (t : Fin (cfgA hp).N) (h : t.val < used T) (r : Fin 256) (j : Fin 2816) :
    visit4 hp m c t h (ix3 0 r j) = codes (act m c (exOf hp t) (rowOf hp t r)) j := by
  unfold visit4
  rw [out4_apply (e := exOf hp t) (he := by
    refine (congrArg BitVec.toNat (body_read T _ _ _ (k2_off (crd hp t)))).trans ?_
    rw [crd_val t]; rfl), rowAct_at]

theorem visit5_at (c : Dev nD) (t : Fin (cfgA hp).N) (h : t.val < used T) (r : Fin 256) (l : Fin 128) :
    visit5 hp m c t h (ix3 0 r l) = scale (act m c (exOf hp t) (rowOf hp t r))
      * (if word T (448 + t.val) = 0#32 then m ((c : Thread nD τ).loc main_arg2) (ix2 (rowOf hp t r) ⟨128 + l.val, by omega⟩)
          else m ((c : Thread nD τ).loc main_arg2) (ix2 (rowOf hp t r) ⟨256 + l.val, by omega⟩)) := by
  unfold visit5
  have hs : kernelRun0_A.sl.r_29 (crd hp t) T = word T (448 + t.val) := by
    refine (body_read T _ _ _ (toNat_off 448 _ (by decide) (crd_lt (crd hp t)))).trans ?_
    rw [crd_val t]
  rw [out5_apply (e := exOf hp t) (he := by
    refine (congrArg BitVec.toNat (body_read T _ _ _ (k2_off (crd hp t)))).trans ?_
    rw [crd_val t]; rfl), rowAct_at, hs, iblk1_at, iblk1_at]

/-! ## Which visit a point's buffers hold -/

/-- The last used visit up to `t`. -/
def last (t : Fin (cfgA hp).N) : Fin (cfgA hp).N := ⟨min t.val (used T - 1), by have := t.isLt; omega⟩

theorem last_used (t : Fin (cfgA hp).N) : (last hp t).val < used T := by
  have := used_pos hp
  show min t.val (used T - 1) < used T
  omega

theorem last_eq (t : Fin (cfgA hp).N) (h : t.val < used T) : last hp t = t := Fin.ext (by show min t.val (used T - 1) = t.val; omega)

theorem pair_congr (c : Dev nD) {t t' : Fin (cfgA hp).N} (e : t = t') (h : t.val < used T) (h' : t'.val < used T) :
    (visit4 hp m c t h, visit5 hp m c t h) = (visit4 hp m c t' h', visit5 hp m c t' h') := by subst e; rfl

theorem traj_last (c : Dev nD) : ∀ (n : ℕ) (h : n < (cfgA hp).N),
    traj0 hp m c n h = (visit4 hp m c (last hp ⟨n, h⟩) (last_used hp _), visit5 hp m c (last hp ⟨n, h⟩) (last_used hp _))
  | n, h => by
    by_cases hu : n < used T
    · rw [traj0_eq hp m c ⟨n, h⟩, step0_A hp m c ⟨n, h⟩ hu]
      exact pair_congr hp m c (last_eq hp ⟨n, h⟩ hu).symm _ _
    · match n, h with
      | 0, _ => have := used_pos hp; omega
      | n + 1, h =>
        rw [traj0_eq hp m c ⟨n + 1, h⟩, step0_B hp m c ⟨n + 1, h⟩ hu]
        have e : last hp ⟨n + 1, h⟩ = last hp ⟨n, Nat.lt_of_succ_lt h⟩ := Fin.ext (by
          show min (n + 1) (used T - 1) = min n (used T - 1)
          omega)
        exact (traj_last c n (Nat.lt_of_succ_lt h)).trans (pair_congr hp m c e.symm _ _)

theorem words_last : ∀ (n : ℕ) (h : n < (cfgA hp).N), word T (192 + n) = word T (192 + (last hp ⟨n, h⟩).val)
      ∧ word T (448 + n) = word T (448 + (last hp ⟨n, h⟩).val)
  | n, h => by
    by_cases hu : n < used T
    · rw [last_eq hp ⟨n, h⟩ hu]; exact ⟨rfl, rfl⟩
    · match n, h with
      | 0, _ => have := used_pos hp; omega
      | n + 1, h =>
        have e : last hp ⟨n + 1, h⟩ = last hp ⟨n, Nat.lt_of_succ_lt h⟩ := Fin.ext (by
          show min (n + 1) (used T - 1) = min n (used T - 1)
          omega)
        obtain ⟨h1, -, h3⟩ := hp.tail n h (by unfold used at hu; omega)
        rw [e, h1, h3]
        exact words_last n _

/-! ## The result arrays -/

/-- The expert of tile `i` in slot `s`. -/
def tileEx (T : S576.Idx → BitVec 32) (s : Fin 2) (i : ℕ) : Fin 4 :=
  ⟨(if s.val = 0 then word T (64 + i) else word T (128 + i)).toNat % 4, Nat.mod_lt _ (by decide)⟩

theorem exOf_eq (t : Fin (cfgA hp).N) (s : Fin 2) (hs : (word T (448 + t.val)).toNat = s.val) :
    exOf hp t = tileEx T s (word T (192 + t.val)).toNat := by
  have h := hp.right t.val _ t.isLt (hp.tile_lt t.val t.isLt) rfl
  have h4 := hp.expert_lt t.val t.isLt
  rw [hs] at h
  apply Fin.ext
  show (word T (320 + t.val)).toNat = (if s.val = 0 then _ else _ : BitVec 32).toNat % 4
  rw [← h]
  exact (Nat.mod_eq_of_lt h4).symm

/-- Every (slot, tile) in use is some used visit's. -/
theorem visit_of (s : Fin 2) (i : ℕ) (hi : i < (word T 0).toNat) :
    ∃ t : Fin (cfgA hp).N, t.val < used T ∧ (word T (448 + t.val)).toNat = s.val ∧ (word T (192 + t.val)).toNat = i := by
  have hu := used_le hp
  have h2 : Function.Injective (fun v : Fin (used T) => ((⟨(word T (448 + v.val)).toNat, hp.slot_lt _ (by omega)⟩,
      ⟨(word T (192 + v.val)).toNat, hp.used _ v.isLt⟩) : Fin 2 × Fin (word T 0).toNat)) := by
    intro v v' e
    simp only [Prod.mk.injEq, Fin.mk.injEq] at e
    exact Fin.ext (hp.once v.val v'.val v.isLt v'.isLt (BitVec.eq_of_toNat_eq e.2) (BitVec.eq_of_toNat_eq e.1))
  have h3 := (Fintype.bijective_iff_injective_and_card _).mpr ⟨h2, by simp [used]⟩
  obtain ⟨v, hv⟩ := h3.2 (s, ⟨i, hi⟩)
  simp only [Prod.mk.injEq, Fin.ext_iff] at hv
  exact ⟨⟨v.val, by have := v.isLt; have hN : (cfgA hp).N = 74 := N_0; omega⟩, v.isLt, hv.1, hv.2⟩

/-- The slot, the row and the expert of the visit a point's buffers hold are the point's own. -/
theorem last_facts (u : Fin (cfgA hp).N) (r : Fin 256) :
    (rowOf hp (last hp u) r = rowOf hp u r ∧ word T (448 + (last hp u).val) = word T (448 + u.val))
      ∧ exOf hp (last hp u) = tileEx T ⟨(word T (448 + u.val)).toNat, hp.slot_lt _ u.isLt⟩ ((rowOf hp u r).val / 256) := by
  obtain ⟨h1, h2⟩ := words_last hp u.val u.isLt
  have hr : (rowOf hp u r).val / 256 = (word T (192 + u.val)).toNat := by
    show ((word T (192 + u.val)).toNat * 256 + r.val) / 256 = _
    omega
  refine ⟨⟨Fin.ext ?_, h2.symm⟩, ?_⟩
  · show (word T (192 + (last hp u).val)).toNat * 256 + r.val = (word T (192 + u.val)).toNat * 256 + r.val
    rw [h1]
  · rw [hr, h1]
    exact exOf_eq hp (last hp u) _ (congrArg BitVec.toNat h2.symm)

theorem flushed4_at (c : Dev nD) (u : Fin (cfgA hp).N) (r : Fin 256) (j : Fin 2816) :
    (dats hp m 0 c).flushed (4 : Fin 6) u (ix3 0 r j) = visit4 hp m c (last hp u) (last_used hp u) (ix3 0 r j) := by
  have e : (dats hp m 0 c).flushed (4 : Fin 6) u (ix3 0 r j) = (dats hp m 0 c).after (4 : Fin 6) u (ix3 0 r j) := rfl
  rw [e, after0_4, traj_last]
theorem flushed5_at (c : Dev nD) (u : Fin (cfgA hp).N) (r : Fin 256) (l : Fin 128) :
    (dats hp m 0 c).flushed (5 : Fin 6) u (ix3 0 r l) = visit5 hp m c (last hp u) (last_used hp u) (ix3 0 r l) := by
  have e : (dats hp m 0 c).flushed (5 : Fin 6) u (ix3 0 r l) = (dats hp m 0 c).after (5 : Fin 6) u (ix3 0 r l) := rfl
  rw [e, after0_5, traj_last]

theorem arr4_at (c : Dev nD) (s : Fin 2) (R : Fin 9472) (hR : R.val / 256 < (word T 0).toNat) (j : Fin 2816) :
    (dats hp m 0 c).arrAt (4 : Fin 6) (cfgA hp).N (ix3 s R j) = codes (act m c (tileEx T s (R.val / 256)) R) j := by
  obtain ⟨t, htu, hs, hi⟩ := visit_of hp s (R.val / 256) hR
  obtain ⟨t', -, hf, hx⟩ := ((cfgA hp).win (4 : Fin 6)).exists_flush_same_index rfl t
  refine (dats hp m 0 c).arrAt_forall_of_flushed (4 : Fin 6)
    (fun i v => v = codes (act m c (tileEx T (i 0) ((i 1).val / 256)) (i 1)) (i 2)) (fun u hu y => ?_) (cfgA hp).N t' (ix3 s R j) t'.isLt hf ?_
  · obtain ⟨r, k, rfl⟩ : ∃ (r : Fin 256) (k : Fin 2816), y = ix3 0 r k :=
      ⟨y 1, y 2, by funext a; fin_cases a; · exact Subsingleton.elim (α := Fin 1) _ _
                    all_goals rfl⟩
    have e0 : ((((cfgA hp).win (4 : Fin 6)).blk u).view.emb (ix3 0 r k)) = ix3 ⟨(word T (448 + u.val)).toNat, hp.slot_lt _ u.isLt⟩ (rowOf hp u r) k := by
      funext a
      apply Fin.ext
      refine (Window.rect_emb_val ((cfgA hp).win (4 : Fin 6)) u _ a rfl).trans ?_
      rw [index4_eq]
      fin_cases a
      · exact Nat.mul_one _
      · rfl
      · exact Nat.zero_add _
    obtain ⟨⟨h1, h2⟩, h3⟩ := last_facts hp u r
    rw [e0]
    refine (cast_eq rfl _).trans ((flushed4_at hp m c u r k).trans ((visit4_at hp m c (last hp u) (last_used hp u) r k).trans ?_))
    rw [h1, h3]
    rfl
  · refine (((cfgA hp).win (4 : Fin 6)).emb_mem_blk_iff t' (ix3 s R j) rfl).mpr fun a => ?_
    rw [hx, index4_eq, hs, hi]
    fin_cases a
    · exact ⟨Nat.le_of_eq (Nat.mul_one _), by show s.val < s.val * 1 + 1; omega⟩
    · exact ⟨by show R.val / 256 * 256 ≤ R.val; omega, by show R.val < R.val / 256 * 256 + 256; omega⟩
    · exact ⟨by show 0 * 2816 ≤ j.val; omega, by show j.val < 0 * 2816 + 2816; omega⟩

theorem arr5_at (c : Dev nD) (s : Fin 2) (R : Fin 9472) (hR : R.val / 256 < (word T 0).toNat) (l : Fin 128) :
    (dats hp m 0 c).arrAt (5 : Fin 6) (cfgA hp).N (ix3 s R l) = scale (act m c (tileEx T s (R.val / 256)) R)
      * (if s.val = 0 then m ((c : Thread nD τ).loc main_arg2) (ix2 R ⟨128 + l.val, by omega⟩)
          else m ((c : Thread nD τ).loc main_arg2) (ix2 R ⟨256 + l.val, by omega⟩)) := by
  obtain ⟨t, htu, hs, hi⟩ := visit_of hp s (R.val / 256) hR
  obtain ⟨t', -, hf, hx⟩ := ((cfgA hp).win (5 : Fin 6)).exists_flush_same_index rfl t
  refine (dats hp m 0 c).arrAt_forall_of_flushed (5 : Fin 6)
    (fun i v => v = scale (act m c (tileEx T (i 0) ((i 1).val / 256)) (i 1))
      * (if (i 0).val = 0 then m ((c : Thread nD τ).loc main_arg2) (ix2 (i 1) ⟨128 + (i 2).val, by have : (i 2).val < 128 := (i 2).isLt; omega⟩)
          else m ((c : Thread nD τ).loc main_arg2) (ix2 (i 1) ⟨256 + (i 2).val, by have : (i 2).val < 128 := (i 2).isLt; omega⟩)))
    (fun u hu y => ?_) (cfgA hp).N t' (ix3 s R l) t'.isLt hf ?_
  · obtain ⟨r, k, rfl⟩ : ∃ (r : Fin 256) (k : Fin 128), y = ix3 0 r k :=
      ⟨y 1, y 2, by funext a; fin_cases a; · exact Subsingleton.elim (α := Fin 1) _ _
                    all_goals rfl⟩
    have e0 : ((((cfgA hp).win (5 : Fin 6)).blk u).view.emb (ix3 0 r k)) = ix3 ⟨(word T (448 + u.val)).toNat, hp.slot_lt _ u.isLt⟩ (rowOf hp u r) k := by
      funext a
      apply Fin.ext
      refine (Window.rect_emb_val ((cfgA hp).win (5 : Fin 6)) u _ a rfl).trans ?_
      rw [index5_eq]
      fin_cases a
      · exact Nat.mul_one _
      · rfl
      · exact Nat.zero_add _
    obtain ⟨⟨h1, h2⟩, h3⟩ := last_facts hp u r
    have hz : (word T (448 + u.val) = 0#32) = ((word T (448 + u.val)).toNat = 0) :=
      propext ⟨fun h => by rw [h]; rfl, fun h => BitVec.eq_of_toNat_eq h⟩
    rw [e0]
    refine (cast_eq rfl _).trans ((flushed5_at hp m c u r k).trans ((visit5_at hp m c (last hp u) (last_used hp u) r k).trans ?_))
    rw [h1, h2, h3]
    simp only [hz]
    rfl
  · refine (((cfgA hp).win (5 : Fin 6)).emb_mem_blk_iff t' (ix3 s R l) rfl).mpr fun a => ?_
    rw [hx, index5_eq, hs, hi]
    fin_cases a
    · exact ⟨Nat.le_of_eq (Nat.mul_one _), by show s.val < s.val * 1 + 1; omega⟩
    · exact ⟨by show R.val / 256 * 256 ≤ R.val; omega, by show R.val < R.val / 256 * 256 + 256; omega⟩
    · exact ⟨by show 0 * 128 ≤ l.val; omega, by show l.val < 0 * 128 + 128; omega⟩

end Cert.KernelIdeal.Up

end
-- ==== Proof.IdealValue.lean ====
/- The kernel program's two results at an index: the region's arrays, rows of tiles not in use put to zero. -/
module

public import proofs.«01_k».proof.Proof.IdealArray
public import Idealize.ShloMosaic.Lib.StableHlo.ReadAt

@[expose] public section

set_option maxRecDepth 16384

noncomputable section

namespace Cert.KernelIdeal.Up

open Cert.KernelIdeal Cert.KernelIdeal.Gen Cert.Up
open Idealize.ShloMosaic
open Idealize.ShloMosaic.TcCoe
open Idealize.ShloMosaic.Pipeline (Dat Cfg Window)

variable {T : S576.Idx → BitVec 32} (hp : Plan (word T))
variable (m : (ℓ : Loc nD τ sig) → Buf (Elt Ideal) ℓ)

theorem select_one {α : Type} (x y : α) : Scalar.select 1#1 x y = x := rfl
theorem select_zero {α : Type} (x y : α) : Scalar.select 0#1 x y = y := rfl

include hp in
theorem mask5_at (hm : ∀ c : Dev nD, m ((c : Thread nD τ).loc main_arg0) = T) (c : Dev nD) (s : Fin 2) (R : Fin 9472) (j : Fin 2816) :
    V0 m c (Proc.tc.devRef main_v5) (ix3 s R j) = if R.val / 256 < (word T 0).toNat then 1#1 else 0#1 := by
  refine Eq.trans (b := IntOp.cmpi .slt (BitVec.ofNat 32 R.val) (IntOp.muli (m ((c : Thread nD τ).loc main_arg0) (ix1 0)) 256#32)) ?_ ?_
  · unfold V0
    simp only [hostOps0, List.flatten_cons, List.flatten_nil, List.append_nil, List.cons_append, List.nil_append]
    after_reads_at
  · rw [hm c]
    exact live_iff R.val R.isLt (word T 0) hp.count.2 (T (ix1 0)) (word_val T _)

include hp in
theorem mask11_at (hm : ∀ c : Dev nD, m ((c : Thread nD τ).loc main_arg0) = T) (c : Dev nD) (s : Fin 2) (R : Fin 9472) (l : Fin 128) :
    V0 m c (Proc.tc.devRef main_v11) (ix3 s R l) = if R.val / 256 < (word T 0).toNat then 1#1 else 0#1 := by
  refine Eq.trans (b := IntOp.cmpi .slt (BitVec.ofNat 32 R.val) (IntOp.muli (m ((c : Thread nD τ).loc main_arg0) (ix1 0)) 256#32)) ?_ ?_
  · unfold V0
    simp only [hostOps0, List.flatten_cons, List.flatten_nil, List.append_nil, List.cons_append, List.nil_append]
    after_reads_at
  · rw [hm c]
    exact live_iff R.val R.isLt (word T 0) hp.count.2 (T (ix1 0)) (word_val T _)

/-- The two arrays the region leaves, as the host lines after it find them. -/
theorem with4 (c : Dev nD) : Pipeline.withArrays (Pipeline.pin (pcfgs (F := Ideal)) (fun _ => adm hp) 0).spec c (V0 m c)
    (fun w => (dats hp m 0 c).arrAt w (Pipeline.pin (pcfgs (F := Ideal)) (fun _ => adm hp) 0).N) (Proc.tc.devRef main_v12_0)
      = (dats hp m 0 c).arrAt (4 : Fin 6) (cfgA hp).N :=
  Pipeline.withArrays_arr _ winFacts0.arr_inj c _ _ (4 : Fin 6)
theorem with5 (c : Dev nD) : Pipeline.withArrays (Pipeline.pin (pcfgs (F := Ideal)) (fun _ => adm hp) 0).spec c (V0 m c)
    (fun w => (dats hp m 0 c).arrAt w (Pipeline.pin (pcfgs (F := Ideal)) (fun _ => adm hp) 0).N) (Proc.tc.devRef main_v12_1)
      = (dats hp m 0 c).arrAt (5 : Fin 6) (cfgA hp).N :=
  Pipeline.withArrays_arr _ winFacts0.arr_inj c _ _ (5 : Fin 6)

theorem v15_at (hm : ∀ c : Dev nD, m ((c : Thread nD τ).loc main_arg0) = T) (c : Dev nD) (s : Fin 2) (R : Fin 9472) (j : Fin 2816) :
    Vend hp m c main_v15 (ix3 s R j) = if R.val / 256 < (word T 0).toNat then codes (act m c (tileEx T s (R.val / 256)) R) j else (0 : EReal) := by
  unfold Vend Pipeline.afterTail
  simp only [sfx, hostOps1, hostOps1_1, hostOps1_2, hostOps1_3, List.flatten_cons, List.flatten_nil, List.append_nil, List.cons_append, List.nil_append]
  after_reads_at
  rw [Pipeline.withArrays_of_ne _ c (V0 m c) _ main_v5 (by exact (by decide : ∀ w, Pipeline.arrRef spec0 w ≠ main_v5)), with4 hp m c]
  rw [mask5_at hp m hm c s R j]
  by_cases h : R.val / 256 < (word T 0).toNat
  · rw [if_pos h, if_pos h, select_one]
    exact arr4_at hp m c s R h j
  · rw [if_neg h, if_neg h, select_zero]
    exact Ideal.ofBits_zero .fp8e4m3

theorem v17_at (hm : ∀ c : Dev nD, m ((c : Thread nD τ).loc main_arg0) = T) (c : Dev nD) (s : Fin 2) (R : Fin 9472) (l : Fin 128) :
    Vend hp m c main_v17 (ix3 s R l) = if R.val / 256 < (word T 0).toNat then
        scale (act m c (tileEx T s (R.val / 256)) R)
          * (if s.val = 0 then m ((c : Thread nD τ).loc main_arg2) (ix2 R ⟨128 + l.val, by omega⟩)
              else m ((c : Thread nD τ).loc main_arg2) (ix2 R ⟨256 + l.val, by omega⟩))
      else (0 : EReal) := by
  unfold Vend Pipeline.afterTail
  simp only [sfx, hostOps1, hostOps1_1, hostOps1_2, hostOps1_3, List.flatten_cons, List.flatten_nil, List.append_nil, List.cons_append, List.nil_append]
  after_reads_at
  rw [Pipeline.withArrays_of_ne _ c (V0 m c) _ main_v11 (by exact (by decide : ∀ w, Pipeline.arrRef spec0 w ≠ main_v11)), with5 hp m c]
  rw [mask11_at hp m hm c s R l]
  by_cases h : R.val / 256 < (word T 0).toNat
  · rw [if_pos h, if_pos h, select_one]
    exact arr5_at hp m c s R h l
  · rw [if_neg h, if_neg h, select_zero]

end Cert.KernelIdeal.Up

end
-- ==== Proof.RefTile.lean ====
/- The reference's operations read at an index: an expert's gated activation, the choice of expert by row, the row's scale and the
   two results. -/
module

public import proofs.«01_k».proof.Proof.Gen.ReferenceIdeal.Value
public import proofs.«01_k».proof.Proof.Common
public import Idealize.ShloMosaic.Lib.Pointwise
public import Idealize.ShloMosaic.Lib.Pipeline.ValueKit

@[expose] public section

set_option maxRecDepth 16384

noncomputable section

namespace Cert.ReferenceIdeal.Up

open Cert.ReferenceIdeal Cert.ReferenceIdeal.Gen Cert.Up
open Idealize.ShloMosaic

theorem lit_one : Ideal.ofBits .f32 0x3F800000#32 = 1 := by
  simp [Ideal.ofBits, Ideal.ieee, -EReal.coe_mul]; norm_num

/-- Forty-four copies of the scale's lanes side by side. -/
theorem lanes_apply (v1 : Vec Ideal S9472x128 .f32) (r : Fin 9472) (c : Fin 5632) :
    k0_pay2 (F := Ideal) v1 (ix2 r c) = v1 (ix2 r ⟨c.val % 128, by omega⟩) := by
  unfold k0_pay2
  refine concatenate_replicate_apply (t := S9472x5632) (s₁ := S9472x128) 1 44 v1 _ rfl (ix2 r c) (ix2 r ⟨c.val % 128, by omega⟩) rfl ?_
  intro b hb
  fin_cases b
  · rfl
  · exact absurd rfl hb

/-- One expert's activation of every row. -/
theorem gate_apply (v0 : Vec Ideal S9472x2816 .fp8e4m3) (q : FVec Ideal S9472x5632 .f32) (w : Vec Ideal S1x2816x5632 .fp8e4m3)
    (ws : Vec Ideal S1x5632 .f32) (r : Fin 9472) (c : Fin 2816) :
    k0_pay9 (F := Ideal) v0 q w ws (ix2 r c)
      = gated ((∑ k : Fin 2816, v0 (ix2 r k) * w (ix3 0 k ⟨c.val, by omega⟩)) * q (ix2 r ⟨c.val, by omega⟩) * ws (ix2 0 ⟨c.val, by omega⟩))
          ((∑ k : Fin 2816, v0 (ix2 r k) * w (ix3 0 k ⟨2816 + c.val, by omega⟩)) * q (ix2 r ⟨2816 + c.val, by omega⟩) * ws (ix2 0 ⟨2816 + c.val, by omega⟩)) := by
  unfold gated
  pointwise [k0_pay9]
  rfl

/-- The choice by row: `a` where the row's word is `e`, `b` elsewhere. -/
def pick (x : Vec Ideal S1x9472x1 .i32) (e : BitVec 32) (a b : FVec Ideal S9472x2816 .f32) : FVec Ideal S9472x2816 .f32 :=
  select (broadcastTo S9472x2816 (shapeCast S9472x1 (cmpi .eq (shapeCast S9472x1 x shapeCasts_S1x9472x1_S9472x1) (broadcast S9472x1 e))
    shapeCasts_S9472x1_S9472x1) broadcasts_S9472x1_S9472x2816) a b

theorem select_ite {α : Type} (b : BitVec 1) (p : Prop) [Decidable p] (h : b = 1#1 ↔ p) (x y : α) : Scalar.select b x y = if p then x else y := by
  unfold Scalar.select
  by_cases hp : p
  · rw [if_pos hp]; exact if_pos (h.mpr hp)
  · rw [if_neg hp]; exact if_neg (fun hb => hp (h.mp hb))

theorem eq_ite (v e : BitVec 32) : IntOp.cmpi .eq v e = 1#1 ↔ v = e := by
  unfold IntOp.cmpi
  by_cases h : v = e
  · subst h; simp
  · simp [h, beq_eq_false_iff_ne.mpr h]

theorem pick_apply (x : Vec Ideal S1x9472x1 .i32) (e : BitVec 32) (a b : FVec Ideal S9472x2816 .f32) (r : Fin 9472) (c : Fin 2816) :
    pick x e a b (ix2 r c) = if x (ix3 0 r 0) = e then a (ix2 r c) else b (ix2 r c) := by
  pointwise [pick]
  exact select_ite _ _ (eq_ite _ _) _ _

/-- The four experts' activations, each row's chosen by its word. -/
def chosen (v0 : Vec Ideal S9472x2816 .fp8e4m3) (q : FVec Ideal S9472x5632 .f32) (w0 w1 w2 w3 : Vec Ideal S1x2816x5632 .fp8e4m3)
    (s0 s1 s2 s3 : Vec Ideal S1x5632 .f32) (x : Vec Ideal S1x9472x1 .i32) : FVec Ideal S9472x2816 .f32 :=
  pick x 3#32 (k0_pay9 v0 q w3 s3) (pick x 2#32 (k0_pay9 v0 q w2 s2) (pick x 1#32 (k0_pay9 v0 q w1 s1) (pick x 0#32 (k0_pay9 v0 q w0 s0)
    (broadcast S9472x2816 (Scalar.ofBits (F := Ideal) .f32 0x00000000#32)))))

/-- A row's maximum. -/
theorem top1 (v : FVec Ideal S9472x2816 .f32) (r : Fin 9472) :
    multiReduction (F := Ideal) .maximumf [1] S9472 v 0xFF800000#32 reduces_S9472x2816_S9472 (.inl rfl) rfl (ix1 r)
      = (Finset.univ : Finset (Fin 2816)).fold max ⊥ (fun c => v (ix2 r c)) := by
  refine (Ideal.multiReduction_maximumf_single v 0xFF800000#32 reduces_S9472x2816_S9472 (.inl rfl) rfl (ix1 r)).trans ?_
  have hb : FloatOps.ofBits (F := Ideal) .f32 0xFF800000#32 = (⊥ : EReal) := by
    show Ideal.ofBits .f32 0xFF800000#32 = ⊥
    simp [Ideal.ofBits, Ideal.ieee]
  have hl : ∀ c : Fin 2816, reduces_S9472x2816_S9472.lift (ix1 r) c = ix2 r c := fun c => by
    funext a; fin_cases a <;> rfl
  rw [hb]
  refine congrArg (fun f => (Finset.univ : Finset (Fin 2816)).fold max ⊥ f) (funext fun c => ?_)
  exact congrArg v (hl c)

/-- The maximum stretched to a column and scaled, -/
theorem top2 (M : FVec Ideal S9472 .f32) (r : Fin 9472) :
    mulf (F := Ideal) (shapeCast S9472x1 M shapeCasts_S9472_S9472x1) (broadcast S9472x1 (Scalar.ofBits (F := Ideal) .f32 0x3B124925#32)) (ix2 r 0)
      = M (ix1 r) * lit 0x3B124925#32 := by
  unfold lit
  pointwise []

/-- so the row's largest magnitude over fp8's largest number. -/
theorem top_apply (v : FVec Ideal S9472x2816 .f32) (r : Fin 9472) :
    k0_pay18 (F := Ideal) v (ix2 r 0) = top (fun c => v (ix2 r c)) := by
  unfold k0_pay18 top
  refine (top2 _ r).trans (congrArg (· * lit 0x3B124925#32) ((top1 _ r).trans ?_))
  refine congrArg (fun f => (Finset.univ : Finset (Fin 2816)).fold max ⊥ f) (funext fun c => ?_)
  rfl

/-- Its exponent. -/
theorem rexp_apply (x : FVec Ideal S9472x1 .f32) (r : Fin 9472) :
    k0_pay15 (F := Ideal) x (iota .tc S1x252 32 [1] iota_S1x252_d1_w32) 126#32 (ix2 r 0) = rexp (x (ix2 r 0)) := by
  unfold rexp
  pointwise [k0_pay15]
  refine select_ite _ (lit 0x00800000#32 ≤ x (ix2 r 0) ∧ x (ix2 r 0) < lit 0x7E800000#32) ?_ _ _
  unfold IntOp.andi lit
  by_cases h1 : Ideal.ofBits .f32 0x00800000#32 ≤ x (ix2 r 0) <;> by_cases h2 : x (ix2 r 0) < Ideal.ofBits .f32 0x7E800000#32 <;> simp [h1, h2]

/-- The codes written, -/
theorem codes_apply (v : FVec Ideal S9472x2816 .f32) (x : FVec Ideal S9472x1 .f32) (i : IVec S1x252 32) (b : BitVec 32) (live : Vec Ideal S9472x1 .i32)
    (r : Fin 9472) (c : Fin 2816) :
    k0_pay16 (F := Ideal) v x i b live (ix3 0 r c) = if live (ix2 r 0) = 1#32 then
      min (lit 0x43E00000#32) (max (lit 0xC3E00000#32) (v (ix2 r c) * Ideal.exp2 (0 - k0_pay15 (F := Ideal) x i b (ix2 r 0)))) else 0 := by
  generalize hg : k0_pay15 (F := Ideal) x i b = g
  pointwise [k0_pay16, hg]
  refine (select_ite _ (live (ix2 r 0) = 1#32) (eq_ite _ _) _ _).trans ?_
  simp only [hg, lit]
  rfl

/-- and the scales. -/
theorem scale_apply (e : FVec Ideal S9472x1 .f32) (live : Vec Ideal S9472x1 .i32) (g : Vec Ideal S9472x128 .f32) (r : Fin 9472) (l : Fin 128) :
    k0_pay17 (F := Ideal) e live g (ix3 0 r l) = if live (ix2 r 0) = 1#32 then Ideal.exp2 (e (ix2 r 0)) * g (ix2 r l) else 0 := by
  pointwise [k0_pay17]
  exact select_ite _ (live (ix2 r 0) = 1#32) (eq_ite _ _) _ _

end Cert.ReferenceIdeal.Up

end
-- ==== Proof.RefBlock.lean ====
/- What the reference's body leaves in its two results, read at an index, from the arrays it is given. -/
module

public import proofs.«01_k».proof.Proof.RefTile

@[expose] public section

set_option maxRecDepth 16384

noncomputable section

namespace Cert.ReferenceIdeal.Up

open Cert.ReferenceIdeal Cert.ReferenceIdeal.Gen Cert.Up
open Idealize.ShloMosaic

/-- A row whose word names expert `e` takes that expert's activation. -/
theorem chosen_apply (v0 : Vec Ideal S9472x2816 .fp8e4m3) (q : FVec Ideal S9472x5632 .f32) (w : Fin 4 → Vec Ideal S1x2816x5632 .fp8e4m3)
    (s : Fin 4 → Vec Ideal S1x5632 .f32) (x : Vec Ideal S1x9472x1 .i32) (r : Fin 9472) (c : Fin 2816) (e : Fin 4)
    (h : x (ix3 0 r 0) = BitVec.ofNat 32 e.val) :
    chosen v0 q (w 0) (w 1) (w 2) (w 3) (s 0) (s 1) (s 2) (s 3) x (ix2 r c) = k0_pay9 (F := Ideal) v0 q (w e) (s e) (ix2 r c) := by
  unfold chosen
  rw [pick_apply, pick_apply, pick_apply, pick_apply, h]
  fin_cases e
  · rw [if_neg (by decide), if_neg (by decide), if_neg (by decide), if_pos rfl]; rfl
  · rw [if_neg (by decide), if_neg (by decide), if_pos rfl]; rfl
  · rw [if_neg (by decide), if_pos rfl]; rfl
  · rw [if_pos rfl]; rfl

section
variable (x0 : Vec Ideal S2x9472x1 .i32) (x1 : Vec Ideal S9472x1 .i32) (x2 : Vec Ideal S9472x2816 .fp8e4m3) (x3 : Vec Ideal S9472x384 .f32)
  (x4 : Vec Ideal S4x2816x5632 .fp8e4m3) (x5 : Vec Ideal S4x5632 .f32)

/-- Row `r`'s activation under expert `e`. -/
def rowAct (e : Fin 4) (r : Fin 9472) (c : Fin 2816) : EReal :=
  actv (fun k => x2 (ix2 r k)) (fun k => x3 (ix2 r k)) (fun k c => x4 (ix3 e k c)) (fun c => x5 (ix2 e c)) c

theorem inb_w (e : Fin 4) : ∀ a, (![e.val, 0, 0] : Fin 3 → ℕ) a + S1x2816x5632.size a ≤ S4x2816x5632.size a := by
  intro a; fin_cases a <;> simp <;> omega
theorem inb_s (e : Fin 4) : ∀ a, (![e.val, 0] : Fin 2 → ℕ) a + S1x5632.size a ≤ S4x5632.size a := by
  intro a; fin_cases a <;> simp <;> omega

/-- Expert `e`'s weights, -/
def wOf (e : Fin 4) : Vec Ideal S1x2816x5632 .fp8e4m3 := View.ld x4 (Rect.unit (s := S4x2816x5632) ![e.val, 0, 0] S1x2816x5632.size (inb_w e))
/-- and its columns' scales. -/
def sOf (e : Fin 4) : Vec Ideal S1x5632 .f32 := View.ld x5 (Rect.unit (s := S4x5632) ![e.val, 0] S1x5632.size (inb_s e))

theorem gate_at (e : Fin 4) (r : Fin 9472) (c : Fin 2816) :
    k0_pay9 (F := Ideal) (View.ld x2 r0_0) (k0_pay2 (F := Ideal) (View.ld x3 r0_1)) (wOf x4 e) (sOf x5 e) (ix2 r c) = rowAct x2 x3 x4 x5 e r c := by
  rw [gate_apply]
  unfold rowAct actv hid
  have h2 : ∀ k : Fin 2816, View.ld x2 r0_0 (ix2 r k) = x2 (ix2 r k) := fun k =>
    View.ld_unit_apply_of x2 _ _ _ (ix2 r k) (ix2 r k) (by intro a; fin_cases a <;> simp)
  have h4 : ∀ (k : Fin 2816) (j : Fin 5632), wOf x4 e (ix3 0 k j) = x4 (ix3 e k j) := fun k j =>
    View.ld_unit_apply_of x4 _ _ _ (ix3 0 k j) (ix3 e k j) (by intro a; fin_cases a <;> simp)
  have h5 : ∀ j : Fin 5632, sOf x5 e (ix2 0 j) = x5 (ix2 e j) := fun j =>
    View.ld_unit_apply_of x5 _ _ _ (ix2 0 j) (ix2 e j) (by intro a; fin_cases a <;> simp)
  have h3 : ∀ j : Fin 5632, k0_pay2 (F := Ideal) (View.ld x3 r0_1) (ix2 r j) = x3 (ix2 r ⟨j.val % 128, by omega⟩) := fun j =>
    (lanes_apply _ r j).trans (View.ld_unit_apply_of x3 _ _ _ (ix2 r ⟨j.val % 128, by omega⟩) (ix2 r ⟨j.val % 128, by omega⟩) (by intro a; fin_cases a <;> simp))
  simp only [h2, h3, h4, h5]

/-- The activation the body chooses by the words `y`. -/
def actOf (y : Vec Ideal S1x9472x1 .i32) : FVec Ideal S9472x2816 .f32 :=
  chosen (View.ld x2 r0_0) (k0_pay2 (F := Ideal) (View.ld x3 r0_1)) (wOf x4 0) (wOf x4 1) (wOf x4 2) (wOf x4 3) (sOf x5 0) (sOf x5 1) (sOf x5 2) (sOf x5 3) y

theorem actOf_at (y : Vec Ideal S1x9472x1 .i32) (e : Fin 4) (r : Fin 9472) (h : y (ix3 0 r 0) = BitVec.ofNat 32 e.val) (c : Fin 2816) :
    actOf x2 x3 x4 x5 y (ix2 r c) = rowAct x2 x3 x4 x5 e r c :=
  (chosen_apply _ _ (wOf x4) (sOf x5) y r c e h).trans (gate_at x2 x3 x4 x5 e r c)

theorem act0_eq : k0_pay12 (F := Ideal) (View.ld x2 r0_0) (k0_pay24 x0 x1 x2 x3 x4 x5) (k0_pay26 x0 x1 x2 x3 x4 x5) (View.ld x4 r0_10) (View.ld x5 r0_11) (View.ld x0 r0_4)
    = actOf x2 x3 x4 x5 (View.ld x0 r0_4) := rfl
theorem act1_eq : k0_pay28 (F := Ideal) x0 x1 x2 x3 x4 x5 = actOf x2 x3 x4 x5 (View.ld x0 r0_5) := rfl

/-- A row's codes from its activation, -/
theorem codes_at (v : FVec Ideal S9472x2816 .f32) (r : Fin 9472) (c : Fin 2816) :
    k0_pay16 (F := Ideal) v (k0_pay18 (F := Ideal) v) (iota .tc S1x252 32 [1] iota_S1x252_d1_w32) 126#32 (View.ld x1 r0_12) (ix3 0 r c)
      = if x1 (ix2 r 0) = 1#32 then codes (fun c => v (ix2 r c)) c else 0 := by
  rw [codes_apply, rexp_apply, top_apply]
  have h1 : View.ld x1 r0_12 (ix2 r 0) = x1 (ix2 r 0) :=
    View.ld_unit_apply_of x1 _ _ _ (ix2 r 0) (ix2 r 0) (by intro a; fin_cases a <;> simp)
  rw [h1]
  rfl

/-- and its scale. -/
theorem scale_at (v : FVec Ideal S9472x2816 .f32) (g : Vec Ideal S9472x128 .f32) (r : Fin 9472) (l : Fin 128) :
    k0_pay17 (F := Ideal) (k0_pay15 (F := Ideal) (k0_pay18 (F := Ideal) v) (iota .tc S1x252 32 [1] iota_S1x252_d1_w32) 126#32) (View.ld x1 r0_12) g (ix3 0 r l)
      = if x1 (ix2 r 0) = 1#32 then scale (fun c => v (ix2 r c)) * g (ix2 r l) else 0 := by
  rw [scale_apply, rexp_apply, top_apply]
  have h1 : View.ld x1 r0_12 (ix2 r 0) = x1 (ix2 r 0) :=
    View.ld_unit_apply_of x1 _ _ _ (ix2 r 0) (ix2 r 0) (by intro a; fin_cases a <;> simp)
  rw [h1]
  rfl

end

/-- Two stacked stores read back: the later one holds the second layer, the earlier one the first. -/
theorem canon_second {n k : ℕ} {e : EltTy} (i0 i1) (p1 p0 : (⟨3, ![1, n, k]⟩ : Shape).Idx → Elt Ideal e) (r : Fin n) (c : Fin k) :
    View.canon (Val := Elt Ideal) [⟨Rect.unit (s := ⟨3, ![2, n, k]⟩) ![1, 0, 0] ![1, n, k] i1, p1⟩, ⟨Rect.unit (s := ⟨3, ![2, n, k]⟩) ![0, 0, 0] ![1, n, k] i0, p0⟩] (ix3 1 r c)
      = p1 (ix3 0 r c) := by
  have h : (ix3 1 r c : (⟨3, ![2, n, k]⟩ : Shape).Idx) = (Rect.unit (s := ⟨3, ![2, n, k]⟩) ![1, 0, 0] ![1, n, k] i1).emb (ix3 0 r c) := by
    funext a; fin_cases a <;> apply Fin.ext <;> simp [Rect.emb, LoadRect.idx, Rect.unit]
  rw [h]
  exact View.canon_cons_emb _ _ _ _

theorem canon_first {n k : ℕ} {e : EltTy} (i0 i1) (p1 p0 : (⟨3, ![1, n, k]⟩ : Shape).Idx → Elt Ideal e) (r : Fin n) (c : Fin k) :
    View.canon (Val := Elt Ideal) [⟨Rect.unit (s := ⟨3, ![2, n, k]⟩) ![1, 0, 0] ![1, n, k] i1, p1⟩, ⟨Rect.unit (s := ⟨3, ![2, n, k]⟩) ![0, 0, 0] ![1, n, k] i0, p0⟩] (ix3 0 r c)
      = p0 (ix3 0 r c) := by
  have h : (ix3 0 r c : (⟨3, ![2, n, k]⟩ : Shape).Idx) = (Rect.unit (s := ⟨3, ![2, n, k]⟩) ![0, 0, 0] ![1, n, k] i0).emb (ix3 0 r c) := by
    funext a; fin_cases a <;> apply Fin.ext <;> simp [Rect.emb, LoadRect.idx, Rect.unit]
  rw [View.canon_cons_of_not_mem]
  · rw [h]
    exact View.canon_cons_emb _ _ _ _
  · intro hm
    obtain ⟨i, hi, he⟩ := (LoadRect.mem_set _).mp hm (0 : Fin 3)
    have he' : 0 = 1 + 1 * i := he
    omega

section
variable (x0 : Vec Ideal S2x9472x1 .i32) (x1 : Vec Ideal S9472x1 .i32) (x2 : Vec Ideal S9472x2816 .fp8e4m3) (x3 : Vec Ideal S9472x384 .f32)
  (x4 : Vec Ideal S4x2816x5632 .fp8e4m3) (x5 : Vec Ideal S4x5632 .f32)

theorem word0_at (r : Fin 9472) : View.ld x0 r0_4 (ix3 0 r 0) = x0 (ix3 0 r 0) :=
  View.ld_unit_apply_of x0 _ _ _ (ix3 0 r 0) (ix3 0 r 0) (by intro a; fin_cases a <;> simp)
theorem word1_at (r : Fin 9472) : View.ld x0 r0_5 (ix3 0 r 0) = x0 (ix3 1 r 0) :=
  View.ld_unit_apply_of x0 _ _ _ (ix3 0 r 0) (ix3 1 r 0) (by intro a; fin_cases a <;> simp)
theorem gate0_at (r : Fin 9472) (l : Fin 128) : View.ld x3 r0_14 (ix2 r l) = x3 (ix2 r ⟨128 + l.val, by omega⟩) :=
  View.ld_unit_apply_of x3 _ _ _ (ix2 r l) (ix2 r ⟨128 + l.val, by omega⟩) (by intro a; fin_cases a <;> simp)
theorem gate1_at (r : Fin 9472) (l : Fin 128) : View.ld x3 r0_17 (ix2 r l) = x3 (ix2 r ⟨256 + l.val, by omega⟩) :=
  View.ld_unit_apply_of x3 _ _ _ (ix2 r l) (ix2 r ⟨256 + l.val, by omega⟩) (by intro a; fin_cases a <;> simp)

/-- The first result: a row of a tile in use holds its codes under the expert its word names, any other row zero. -/
theorem out6_at (s : Fin 2) (r : Fin 9472) (c : Fin 2816) (e : Fin 4) (h : x1 (ix2 r 0) = 1#32 → x0 (ix3 s r 0) = BitVec.ofNat 32 e.val) :
    out0_6 (F := Ideal) x0 x1 x2 x3 x4 x5 (ix3 s r c) = if x1 (ix2 r 0) = 1#32 then codes (rowAct x2 x3 x4 x5 e r) c else 0 := by
  unfold out0_6
  fin_cases s
  · refine (canon_first _ _ _ _ r c).trans ?_
    rw [act0_eq]
    refine (codes_at x1 (actOf x2 x3 x4 x5 (View.ld x0 r0_4)) r c).trans ?_
    by_cases hl : x1 (ix2 r 0) = 1#32
    · rw [if_pos hl, if_pos hl, funext (actOf_at x2 x3 x4 x5 (View.ld x0 r0_4) e r ((word0_at x0 r).trans (h hl)))]
    · rw [if_neg hl, if_neg hl]
  · refine (canon_second _ _ _ _ r c).trans ?_
    unfold k0_pay30 k0_pay31
    rw [act1_eq]
    refine (codes_at x1 (actOf x2 x3 x4 x5 (View.ld x0 r0_5)) r c).trans ?_
    by_cases hl : x1 (ix2 r 0) = 1#32
    · rw [if_pos hl, if_pos hl, funext (actOf_at x2 x3 x4 x5 (View.ld x0 r0_5) e r ((word1_at x0 r).trans (h hl)))]
    · rw [if_neg hl, if_neg hl]

/-- The second result: the row's scale times the gate of the slot. -/
theorem out7_at (s : Fin 2) (r : Fin 9472) (l : Fin 128) (e : Fin 4) (h : x1 (ix2 r 0) = 1#32 → x0 (ix3 s r 0) = BitVec.ofNat 32 e.val) :
    out0_7 (F := Ideal) x0 x1 x2 x3 x4 x5 (ix3 s r l) = if x1 (ix2 r 0) = 1#32 then scale (rowAct x2 x3 x4 x5 e r)
      * (if s.val = 0 then x3 (ix2 r ⟨128 + l.val, by omega⟩) else x3 (ix2 r ⟨256 + l.val, by omega⟩)) else 0 := by
  unfold out0_7
  fin_cases s
  · refine (canon_first _ _ _ _ r l).trans ?_
    refine (scale_at x1 (actOf x2 x3 x4 x5 (View.ld x0 r0_4)) (View.ld x3 r0_14) r l).trans ?_
    by_cases hl : x1 (ix2 r 0) = 1#32
    · rw [if_pos hl, if_pos hl, funext (actOf_at x2 x3 x4 x5 (View.ld x0 r0_4) e r ((word0_at x0 r).trans (h hl))), gate0_at]
      rfl
    · rw [if_neg hl, if_neg hl]
  · refine (canon_second _ _ _ _ r l).trans ?_
    unfold k0_pay30 k0_pay31
    rw [act1_eq]
    refine (scale_at x1 (actOf x2 x3 x4 x5 (View.ld x0 r0_5)) (View.ld x3 r0_17) r l).trans ?_
    by_cases hl : x1 (ix2 r 0) = 1#32
    · rw [if_pos hl, if_pos hl, funext (actOf_at x2 x3 x4 x5 (View.ld x0 r0_5) e r ((word1_at x0 r).trans (h hl))), gate1_at]
      rfl
    · rw [if_neg hl, if_neg hl]
end

end Cert.ReferenceIdeal.Up

end
-- ==== Proof.RefValue.lean ====
/- The reference's two result arrays at an index: its host lines give each row its tile's two experts and whether the tile is in
   use; its body's results are the arrays. -/
module

public import proofs.«01_k».proof.Proof.RefBlock
public import proofs.«01_k».proof.Proof.Plan
public import Idealize.ShloMosaic.Lib.StableHlo.ReadAt

@[expose] public section

set_option maxRecDepth 16384

noncomputable section

namespace Cert.ReferenceIdeal.Up

open Cert.ReferenceIdeal Cert.ReferenceIdeal.Gen Cert.Up
open Idealize.ShloMosaic
open Idealize.ShloMosaic.TcCoe
open Idealize.ShloMosaic.Pipeline (Dat Cfg Window)

variable {T : S576.Idx → BitVec 32} (hp : Plan (word T))
variable (m : (ℓ : Loc nD τ sig) → Buf (Elt Ideal) ℓ)

/-- The words of the host lines: the row's expert in a slot, -/
theorem expert_at (hm : ∀ c : Dev nD, m ((c : Thread nD τ).loc main_arg0) = T) (c : Dev nD) (s : Fin 2) (R : Fin 9472) :
    V m c main_v7 (ix3 s R 0) = if s.val = 0 then word T (64 + R.val / 256) else word T (128 + R.val / 256) := by
  unfold V
  simp only [hostOps0, List.flatten_cons, List.flatten_nil, List.append_nil, List.cons_append, List.nil_append]
  after_reads_at
  by_cases h : s.val < 1
  · have h0 : s.val = 0 := by omega
    rw [dif_pos h, if_pos h0]
    after_reads_at
    exact (congrFun (hm c) _).trans (word_val T _)
  · have h0 : ¬ s.val = 0 := by omega
    rw [dif_neg h, if_neg h0]
    after_reads_at
    exact (congrFun (hm c) _).trans (word_val T _)

include hp in
/-- and whether its tile is in use. -/
theorem live_at (hm : ∀ c : Dev nD, m ((c : Thread nD τ).loc main_arg0) = T) (c : Dev nD) (R : Fin 9472) :
    V m c main_v14 (ix2 R 0) = if R.val / 256 < (word T 0).toNat then 1#32 else 0#32 := by
  unfold V
  simp only [hostOps0, List.flatten_cons, List.flatten_nil, List.append_nil, List.cons_append, List.nil_append]
  after_reads_at
  have hc : IntOp.cmpi .slt (BitVec.ofNat 32 R.val) (IntOp.muli (m (c, Proc.tc.devRef main_arg0) (ix1 0)) 256#32)
      = if R.val / 256 < (word T 0).toNat then 1#1 else 0#1 :=
    live_iff R.val R.isLt (word T 0) hp.count.2 _ ((congrFun (hm c) (ix1 0)).trans (word_val T _))
  rw [hc]
  split <;> rfl

/-! ## The input blocks are the arrays -/

theorem iblk0_at (c : Dev nD) (t : Fin cfg0.N) (s : Fin 2) (R : Fin 9472) : iblk m c 0 t (ix3 s R 0) = V m c main_v7 (ix3 s R 0) := by
  refine congrArg (V m c main_v7) (a₂ := ix3 s R 0) ?_
  funext a
  apply Fin.ext
  refine (Window.rect_emb_val (cfg0.win 0) t _ a rfl).trans ?_
  have h : (cfg0.win 0).index t = fun _ => 0 := rfl
  rw [h]
  fin_cases a
  · show 0 * 2 + s.val = s.val; omega
  · show 0 * 9472 + R.val = R.val; omega
  · rfl

theorem iblk1_at (c : Dev nD) (t : Fin cfg0.N) (R : Fin 9472) : iblk m c 1 t (ix2 R 0) = V m c main_v14 (ix2 R 0) := by
  refine congrArg (V m c main_v14) (a₂ := ix2 R 0) ?_
  funext a
  apply Fin.ext
  refine (Window.rect_emb_val (cfg0.win 1) t _ a rfl).trans ?_
  have h : (cfg0.win 1).index t = fun _ => 0 := rfl
  rw [h]
  fin_cases a
  · show 0 * 9472 + R.val = R.val; omega
  · rfl

theorem iblk2_at (c : Dev nD) (t : Fin cfg0.N) (R : Fin 9472) (k : Fin 2816) : iblk m c 2 t (ix2 R k) = m ((c : Thread nD τ).loc main_arg1) (ix2 R k) := by
  refine Eq.trans (congrArg (V m c main_arg1) (a₂ := ix2 R k) ?_) (congrFun (V_main_arg1 m c) _)
  funext a
  apply Fin.ext
  refine (Window.rect_emb_val (cfg0.win 2) t _ a rfl).trans ?_
  have h : (cfg0.win 2).index t = fun _ => 0 := rfl
  rw [h]
  fin_cases a
  · show 0 * 9472 + R.val = R.val; omega
  · show 0 * 2816 + k.val = k.val; omega

theorem iblk3_at (c : Dev nD) (t : Fin cfg0.N) (R : Fin 9472) (k : Fin 384) : iblk m c 3 t (ix2 R k) = m ((c : Thread nD τ).loc main_arg2) (ix2 R k) := by
  refine Eq.trans (congrArg (V m c main_arg2) (a₂ := ix2 R k) ?_) (congrFun (V_main_arg2 m c) _)
  funext a
  apply Fin.ext
  refine (Window.rect_emb_val (cfg0.win 3) t _ a rfl).trans ?_
  have h : (cfg0.win 3).index t = fun _ => 0 := rfl
  rw [h]
  fin_cases a
  · show 0 * 9472 + R.val = R.val; omega
  · show 0 * 384 + k.val = k.val; omega

theorem iblk4_at (c : Dev nD) (t : Fin cfg0.N) (e : Fin 4) (k : Fin 2816) (j : Fin 5632) :
    iblk m c 4 t (ix3 e k j) = m ((c : Thread nD τ).loc main_arg3) (ix3 e k j) := by
  refine Eq.trans (congrArg (V m c main_arg3) (a₂ := ix3 e k j) ?_) (congrFun (V_main_arg3 m c) _)
  funext a
  apply Fin.ext
  refine (Window.rect_emb_val (cfg0.win 4) t _ a rfl).trans ?_
  have h : (cfg0.win 4).index t = fun _ => 0 := rfl
  rw [h]
  fin_cases a
  · show 0 * 4 + e.val = e.val; omega
  · show 0 * 2816 + k.val = k.val; omega
  · show 0 * 5632 + j.val = j.val; omega

theorem iblk5_at (c : Dev nD) (t : Fin cfg0.N) (e : Fin 4) (j : Fin 5632) : iblk m c 5 t (ix2 e j) = m ((c : Thread nD τ).loc main_arg4) (ix2 e j) := by
  refine Eq.trans (congrArg (V m c main_arg4) (a₂ := ix2 e j) ?_) (congrFun (V_main_arg4 m c) _)
  funext a
  apply Fin.ext
  refine (Window.rect_emb_val (cfg0.win 5) t _ a rfl).trans ?_
  have h : (cfg0.win 5).index t = fun _ => 0 := rfl
  rw [h]
  fin_cases a
  · show 0 * 4 + e.val = e.val; omega
  · show 0 * 5632 + j.val = j.val; omega

/-- Row `R`'s activation under expert `e`, from the arguments. -/
def act (c : Dev nD) (e : Fin 4) (R : Fin 9472) (j : Fin 2816) : EReal :=
  actv (fun k => m ((c : Thread nD τ).loc main_arg1) (ix2 R k)) (fun k => m ((c : Thread nD τ).loc main_arg2) (ix2 R k))
    (fun k j => m ((c : Thread nD τ).loc main_arg3) (ix3 e k j)) (fun j => m ((c : Thread nD τ).loc main_arg4) (ix2 e j)) j

theorem rowAct_at (c : Dev nD) (t : Fin cfg0.N) (e : Fin 4) (R : Fin 9472) :
    rowAct (iblk m c 2 t) (iblk m c 3 t) (iblk m c 4 t) (iblk m c 5 t) e R = act m c e R := by
  funext j
  unfold rowAct act
  rw [funext (iblk2_at m c t R), funext (iblk3_at m c t R), funext (fun k => funext (iblk4_at m c t e k)), funext (iblk5_at m c t e)]

/-! ## The results -/

theorem arr6_eq (c : Dev nD) (s : Fin 2) (R : Fin 9472) (j : Fin 2816) : (dats m 0 c).arrAt 6 cfg0.N (ix3 s R j)
    = out0_6 (F := Ideal) (iblk m c 0 t0_0) (iblk m c 1 t0_0) (iblk m c 2 t0_0) (iblk m c 3 t0_0) (iblk m c 4 t0_0) (iblk m c 5 t0_0) (ix3 s R j) := by
  refine congrFun ((dats m 0 c).arrAt_eq_of_after_last 6 t0_0 (by decide +kernel) _ fun y => ?_) (ix3 s R j)
  blk_simp
  rw [after0_6]

theorem arr7_eq (c : Dev nD) (s : Fin 2) (R : Fin 9472) (l : Fin 128) : (dats m 0 c).arrAt 7 cfg0.N (ix3 s R l)
    = out0_7 (F := Ideal) (iblk m c 0 t0_0) (iblk m c 1 t0_0) (iblk m c 2 t0_0) (iblk m c 3 t0_0) (iblk m c 4 t0_0) (iblk m c 5 t0_0) (ix3 s R l) := by
  refine congrFun ((dats m 0 c).arrAt_eq_of_after_last 7 t0_0 (by decide +kernel) _ fun y => ?_) (ix3 s R l)
  blk_simp
  rw [after0_7]

/-- The expert of row `R`'s tile in a slot, by the plan. -/
def tileEx (T : S576.Idx → BitVec 32) (s : Fin 2) (i : Nat) : Fin 4 :=
  ⟨(if s.val = 0 then word T (64 + i) else word T (128 + i)).toNat % 4, Nat.mod_lt _ (by decide)⟩

include hp in
/-- A live row's flag and expert. -/
theorem live_iff_flag (hm : ∀ c : Dev nD, m ((c : Thread nD τ).loc main_arg0) = T) (c : Dev nD) (R : Fin 9472) :
    iblk m c 1 t0_0 (ix2 R 0) = 1#32 ↔ R.val / 256 < (word T 0).toNat := by
  rw [iblk1_at, live_at hp m hm]
  split
  · exact ⟨fun _ => by assumption, fun _ => rfl⟩
  · exact ⟨fun h => absurd h (show ¬ ((0#32 : BitVec 32) = 1#32) by decide), fun h => absurd h (by assumption)⟩

include hp in
theorem expert_of (hm : ∀ c : Dev nD, m ((c : Thread nD τ).loc main_arg0) = T) (c : Dev nD) (s : Fin 2) (R : Fin 9472)
    (hw : R.val / 256 < (word T 0).toNat → (if s.val = 0 then word T (64 + R.val / 256) else word T (128 + R.val / 256)).toNat < 4) :
    iblk m c 1 t0_0 (ix2 R 0) = 1#32 → iblk m c 0 t0_0 (ix3 s R 0) = BitVec.ofNat 32 (tileEx T s (R.val / 256)).val := by
  intro h
  have hl := (live_iff_flag hp m hm c R).mp h
  rw [iblk0_at, expert_at m hm]
  apply BitVec.eq_of_toNat_eq
  have := hw hl
  rw [BitVec.toNat_ofNat]
  show _ = (_ % 4) % 2 ^ 32
  rw [Nat.mod_eq_of_lt this]
  exact (Nat.mod_eq_of_lt (by omega)).symm

include hp in
/-- The first result at an index: the codes of a row of a tile in use, else zero. -/
theorem v15_at (hm : ∀ c : Dev nD, m ((c : Thread nD τ).loc main_arg0) = T) (c : Dev nD) (s : Fin 2) (R : Fin 9472)
    (hw : R.val / 256 < (word T 0).toNat → (if s.val = 0 then word T (64 + R.val / 256) else word T (128 + R.val / 256)).toNat < 4)
    (j : Fin 2816) : (dats m 0 c).arrAt 6 cfg0.N (ix3 s R j)
      = if R.val / 256 < (word T 0).toNat then codes (act m c (tileEx T s (R.val / 256)) R) j else (0 : EReal) := by
  rw [arr6_eq]
  refine (out6_at _ _ _ _ _ _ s R j (tileEx T s (R.val / 256)) (expert_of hp m hm c s R hw)).trans ?_
  rw [rowAct_at]
  exact if_congr (live_iff_flag hp m hm c R) rfl rfl

include hp in
/-- The second result at an index: the row's scale by the slot's gate, else zero. -/
theorem v17_at (hm : ∀ c : Dev nD, m ((c : Thread nD τ).loc main_arg0) = T) (c : Dev nD) (s : Fin 2) (R : Fin 9472)
    (hw : R.val / 256 < (word T 0).toNat → (if s.val = 0 then word T (64 + R.val / 256) else word T (128 + R.val / 256)).toNat < 4)
    (l : Fin 128) : (dats m 0 c).arrAt 7 cfg0.N (ix3 s R l)
      = if R.val / 256 < (word T 0).toNat then scale (act m c (tileEx T s (R.val / 256)) R)
          * (if s.val = 0 then m ((c : Thread nD τ).loc main_arg2) (ix2 R ⟨128 + l.val, by omega⟩)
              else m ((c : Thread nD τ).loc main_arg2) (ix2 R ⟨256 + l.val, by omega⟩))
        else (0 : EReal) := by
  rw [arr7_eq]
  refine (out7_at _ _ _ _ _ _ s R l (tileEx T s (R.val / 256)) (expert_of hp m hm c s R hw)).trans ?_
  rw [rowAct_at, iblk3_at, iblk3_at]
  exact if_congr (live_iff_flag hp m hm c R) rfl rfl

end Cert.ReferenceIdeal.Up

end
-- ==== Proof.Algebraic.lean ====
/- The kernel and the reference, both read at exact arithmetic, end with the same two results. -/
module

public import proofs.«01_k».proof.Proof.IdealValue
public import proofs.«01_k».proof.Proof.RefValue
public import proofs.«01_k».proof.Proof.IdealEnd
public import proofs.«01_k».proof.Proof.Gen.ReferenceIdeal.Value

@[expose] public section

set_option maxRecDepth 16384

noncomputable section

namespace Cert.KernelIdeal.Up

open Cert.KernelIdeal Cert.KernelIdeal.Gen Cert.Up
open Idealize.ShloMosaic
open Idealize.ShloMosaic.TcCoe
open Idealize.SL.Sem

variable {T : S576.Idx → BitVec 32} (hp : Plan (word T))
variable (m : (ℓ : Loc nD τ sig) → Buf (Elt Ideal) ℓ) (ρ : Dev nD → PrngReg)

include hp in
/-- The plan's expert of a tile in use is one of the four. -/
theorem expert_lt_of (s : Fin 2) (i : ℕ) (hi : i < (word T 0).toNat) :
    (if s.val = 0 then word T (64 + i) else word T (128 + i)).toNat < 4 := by
  obtain ⟨t, -, hs, ht⟩ := visit_of hp s i hi
  have h := hp.right t.val i t.isLt (by have := hp.count.2; omega) ht
  rw [hs] at h
  rw [← h]
  exact hp.expert_lt t.val t.isLt

/-- The kernel's run: its two results are `Vend`'s, its arguments are unchanged. -/
theorem run_values (hm : ∀ c : Dev nD, m ((c : Thread nD τ).loc main_arg0) = T) :
    θ_run (defs (F := Ideal)) (onTc (τ := τ) (main (F := Ideal))) ⟨m, fun _ => 0, ρ⟩ (fun r => ∀ c : Dev nD,
      r.2.mem ((c.tc : Thread nD τ).loc main_v15) = Vend hp m c main_v15
      ∧ r.2.mem ((c.tc : Thread nD τ).loc main_v17) = Vend hp m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      (h.1 c).2 main_v15 (Pipeline.mem_restRefs_of main_v15 (by decide) (by exact (by decide : ∀ w, Pipeline.arrRef spec0 w ≠ main_v15))),
      (h.1 c).2 main_v17 (Pipeline.mem_restRefs_of main_v17 (by decide) (by exact (by decide : ∀ w, Pipeline.arrRef spec0 w ≠ main_v17))),
      (h.1 c).2 main_arg0 (Pipeline.mem_restRefs_of main_arg0 (by decide) (by exact (by decide : ∀ w, Pipeline.arrRef spec0 w ≠ main_arg0))) |>.trans (Vend_table hp m c),
      ((h.1 c).1 (0 : Fin 6)).trans (((dats hp m 0 c).arrAt_in (0 : Fin 6) rfl _).trans (V_main_arg1 m c)),
      ((h.1 c).1 (1 : Fin 6)).trans (((dats hp m 0 c).arrAt_in (1 : Fin 6) rfl _).trans (V_main_arg2 m c)),
      ((h.1 c).1 (2 : Fin 6)).trans (((dats hp m 0 c).arrAt_in (2 : Fin 6) rfl _).trans (V_main_arg3 m c)),
      ((h.1 c).1 (3 : Fin 6)).trans (((dats hp m 0 c).arrAt_in (3 : Fin 6) rfl _).trans (V_main_arg4 m c))⟩) (run_main hp m ρ hm)

/-! ## The two programs agree -/

variable (m' : (ℓ : Loc Cert.ReferenceIdeal.nD Cert.ReferenceIdeal.τ Cert.ReferenceIdeal.sig) → Buf (Elt Ideal) ℓ)

/-- The arguments of the two programs on device `c` are the same. -/
structure Agree (c : Dev nD) : Prop where
  arg1 : m' ((c.tc : Thread Cert.ReferenceIdeal.nD Cert.ReferenceIdeal.τ).loc Cert.ReferenceIdeal.main_arg1) = m ((c.tc : Thread nD τ).loc main_arg1)
  arg2 : m' ((c.tc : Thread Cert.ReferenceIdeal.nD Cert.ReferenceIdeal.τ).loc Cert.ReferenceIdeal.main_arg2) = m ((c.tc : Thread nD τ).loc main_arg2)
  arg3 : m' ((c.tc : Thread Cert.ReferenceIdeal.nD Cert.ReferenceIdeal.τ).loc Cert.ReferenceIdeal.main_arg3) = m ((c.tc : Thread nD τ).loc main_arg3)
  arg4 : m' ((c.tc : Thread Cert.ReferenceIdeal.nD Cert.ReferenceIdeal.τ).loc Cert.ReferenceIdeal.main_arg4) = m ((c.tc : Thread nD τ).loc main_arg4)

/-- A row's activation is the same in both. -/
theorem act_agree (c : Dev nD) (h : Agree m m' c) (e : Fin 4) (R : Fin 9472) :
    Cert.ReferenceIdeal.Up.act m' c e R = act m c e R := by
  funext j
  unfold Cert.ReferenceIdeal.Up.act act
  rw [h.arg1, h.arg2, h.arg3, h.arg4]

theorem codes_agree (hm : ∀ c : Dev nD, m ((c : Thread nD τ).loc main_arg0) = T)
    (hm' : ∀ c : Dev Cert.ReferenceIdeal.nD, m' ((c.tc : Thread Cert.ReferenceIdeal.nD Cert.ReferenceIdeal.τ).loc Cert.ReferenceIdeal.main_arg0) = T)
    (c : Dev nD) (h : Agree m m' c) :
    (Cert.ReferenceIdeal.Gen.dats m' 0 c).arrAt 6 Cert.ReferenceIdeal.cfg0.N = Vend hp m c main_v15 := by
  funext y
  obtain ⟨s, R, j, rfl⟩ : ∃ (s : Fin 2) (R : Fin 9472) (j : Fin 2816), y = ix3 s R j := ⟨y 0, y 1, y 2, by funext a; fin_cases a <;> rfl⟩
  rw [v15_at hp m hm]
  refine (Cert.ReferenceIdeal.Up.v15_at hp m' hm' c s R (expert_lt_of hp s _) j).trans ?_
  rw [act_agree m m' c h]
  rfl

theorem scale_agree (hm : ∀ c : Dev nD, m ((c : Thread nD τ).loc main_arg0) = T)
    (hm' : ∀ c : Dev Cert.ReferenceIdeal.nD, m' ((c.tc : Thread Cert.ReferenceIdeal.nD Cert.ReferenceIdeal.τ).loc Cert.ReferenceIdeal.main_arg0) = T)
    (c : Dev nD) (h : Agree m m' c) :
    (Cert.ReferenceIdeal.Gen.dats m' 0 c).arrAt 7 Cert.ReferenceIdeal.cfg0.N = Vend hp m c main_v17 := by
  funext y
  obtain ⟨s, R, l, rfl⟩ : ∃ (s : Fin 2) (R : Fin 9472) (l : Fin 128), y = ix3 s R l := ⟨y 0, y 1, y 2, by funext a; fin_cases a <;> rfl⟩
  rw [v17_at hp m hm]
  refine (Cert.ReferenceIdeal.Up.v17_at hp m' hm' c s R (expert_lt_of hp s _) l).trans ?_
  rw [act_agree m m' c h, h.arg2]
  rfl

end Cert.KernelIdeal.Up

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_plan
public import proofs.«01_k».proof.Proof.BitsEnd
public import proofs.«01_k».proof.Proof.IdealEnd
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel as printed runs, its arguments unchanged and every semaphore counter at zero at the end. -/
theorem frame_kernel : @Cert.quiescent_Kernel Cert.Kernel.Gen.facts Cert.Pre_plan.Gen.facts := fun m g hpre =>
  Cert.Kernel.Up.frame (Cert.Up.plan_of (hpre ⟨0, by decide⟩)) m g (fun c => by
    have e : c = ⟨0, by decide⟩ := Subsingleton.elim (α := Fin 1) _ _
    subst e; rfl)

/-- The same of the kernel read at exact arithmetic. -/
theorem frame_kernelIdeal : @Cert.quiescent_KernelIdeal Cert.KernelIdeal.Gen.facts Cert.Pre_plan.Gen.facts := fun m g hpre =>
  Cert.KernelIdeal.Up.frame (Cert.Up.plan_of (hpre ⟨0, by decide⟩)) m g (fun c => by
    have e : c = ⟨0, by decide⟩ := Subsingleton.elim (α := Fin 1) _ _
    subst e; rfl)

/-- The same of the reference. -/
theorem frame_referenceIdeal : @Cert.quiescent_ReferenceIdeal Cert.ReferenceIdeal.Gen.facts Cert.Pre_plan.Gen.facts := fun m g _ =>
  Cert.ReferenceIdeal.Gen.frame m g

/-- There is one device, so the table is the same on any two. -/
theorem table_eq (m : (ℓ : Loc Cert.KernelIdeal.nD Cert.KernelIdeal.τ Cert.KernelIdeal.sig) → Buf (Elt Ideal) ℓ) (c d : Dev Cert.KernelIdeal.nD) :
    m ((c.tc : Thread Cert.KernelIdeal.nD Cert.KernelIdeal.τ).loc Cert.KernelIdeal.main_arg0)
      = m ((d.tc : Thread Cert.KernelIdeal.nD Cert.KernelIdeal.τ).loc Cert.KernelIdeal.main_arg0) := by
  have e : c = d := Subsingleton.elim (α := Fin 1) _ _
  subst e; rfl

/-- The kernel and the reference, at exact arithmetic and from the same arguments, end with the same codes and the same scales. -/
theorem algebraic : @Cert.algebraic_KernelIdeal_ReferenceIdeal Cert.KernelIdeal.Gen.facts Cert.ReferenceIdeal.Gen.facts Cert.Pre_plan.Gen.facts := by
  intro m g m' g' hpre h
  have hp := Cert.Up.plan_of (hpre ⟨0, by decide⟩)
  have hm := fun c => table_eq m c ⟨0, by decide⟩
  have hm' := fun c => (h c).1.trans (hm c)
  have ha : ∀ c, Cert.KernelIdeal.Up.Agree m m' c := fun c => ⟨(h c).2.1, (h c).2.2.1, (h c).2.2.2.1, (h c).2.2.2.2⟩
  refine ⟨fun c => Cert.KernelIdeal.Up.Vend hp m c Cert.KernelIdeal.main_v15, fun c => Cert.KernelIdeal.Up.Vend hp m c Cert.KernelIdeal.main_v17,
    Cert.KernelIdeal.Up.run_values hp m g hm, ?_⟩
  exact (θ_run Cert.ReferenceIdeal.defs _ _).mono (fun r k c => ⟨(k c).1.trans (Cert.KernelIdeal.Up.codes_agree hp m m' hm hm' c (ha c)),
    (k c).2.1.trans (Cert.KernelIdeal.Up.scale_agree hp m m' hm hm' c (ha c)), (k c).2.2⟩) (Cert.ReferenceIdeal.Value.run_blocks m' g')

theorem claim : Cert.Claim := ⟨Cert.Kernel.Gen.facts, Cert.KernelIdeal.Gen.facts, Cert.ReferenceIdeal.Gen.facts, Cert.Pre_plan.Gen.facts,
  frame_kernel, frame_kernelIdeal, frame_referenceIdeal, trivial, algebraic⟩

end Cert.Proof

end
